-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 8192]⟩ ⟨2, ![2048, 32768]⟩ (Layout.meshBlock [2, 4, 4] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![2048, 8192]⟩ ⟨2, ![2048, 32768]⟩ (Layout.meshBlock [2, 4, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x8192 : Shape := ⟨2, ![2048, 8192]⟩
abbrev S2048x2048 : Shape := ⟨2, ![2048, 2048]⟩
abbrev S256x8192 : Shape := ⟨2, ![256, 8192]⟩
abbrev S2x1024x1024 : Shape := ⟨3, ![2, 1024, 1024]⟩
abbrev S256x2048 : Shape := ⟨2, ![256, 2048]⟩
abbrev S2x4x256x1024 : Shape := ⟨4, ![2, 4, 256, 1024]⟩
abbrev S8x256x2048 : Shape := ⟨3, ![8, 256, 2048]⟩
abbrev S2x256x1024 : Shape := ⟨3, ![2, 256, 1024]⟩
abbrev S_ : Shape := ⟨0, ![]⟩
abbrev S2 : Shape := ⟨1, ![2]⟩
abbrev S2x3 : Shape := ⟨2, ![2, 3]⟩
abbrev S2x4 : Shape := ⟨2, ![2, 4]⟩
abbrev S1 : Shape := ⟨1, ![1]⟩
abbrev S1x1024x1024 : Shape := ⟨3, ![1, 1024, 1024]⟩
abbrev S1024x1024 : Shape := ⟨2, ![1024, 1024]⟩
abbrev S256x1024 : Shape := ⟨2, ![256, 1024]⟩
abbrev S1x1x256x1024 : Shape := ⟨4, ![1, 1, 256, 1024]⟩
abbrev S1x1 : Shape := ⟨2, ![1, 1]⟩
abbrev S1x256x1024 : Shape := ⟨3, ![1, 256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x2048, .f32⟩
  | .local _ .vmem, ⟨0, _⟩ => ⟨S256x8192, .f32⟩
  | .local _ .vmem, ⟨1, _⟩ => ⟨S256x8192, .bf16⟩
  | .local _ .vmem, ⟨2, _⟩ => ⟨S2x1024x1024, .f32⟩
  | .local _ .vmem, ⟨3, _⟩ => ⟨S256x2048, .f32⟩
  | .local _ .vmem, ⟨4, _⟩ => ⟨S2x4x256x1024, .bf16⟩
  | .local _ .vmem, ⟨5, _⟩ => ⟨S8x256x2048, .bf16⟩
  | .local _ .vmem, ⟨6, _⟩ => ⟨S2x256x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let c256_i32 : BitVec 32 := 256#32
  let v51 : BitVec 32 := Scalar.muli v22 c256_i32
  let c0_i32_36 : BitVec 32 := 0#32
  ![v51.toNat, 0]
def k0_dev1 (d0 : Dev nD) : Nat :=
  let c0_i32_52 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_51 : BitVec 32 := 16#32
  let v70 : BitVec 32 := Scalar.muli v2 c16_i32_51
  let v71 : BitVec 32 := Scalar.addi c0_i32_52 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_43 : BitVec 32 := 1#32
  let v59 : BitVec 32 := Scalar.subi v5 c1_i32_43
  let c4_i32_44 : BitVec 32 := 4#32
  let c0_i32_45 : BitVec 32 := 0#32
  let v60 : BitVec 1 := Scalar.cmpi .eq c4_i32_44 c0_i32_45
  let c1_i32_46 : BitVec 32 := 1#32
  let v61 : BitVec 32 := Scalar.select v60 c1_i32_46 c4_i32_44
  let v62 : BitVec 32 := Scalar.remsi v59 v61
  let c0_i32_48 : BitVec 32 := 0#32
  let v64 : BitVec 1 := Scalar.cmpi .slt v62 c0_i32_48
  let c0_i32_49 : BitVec 32 := 0#32
  let v65 : BitVec 1 := Scalar.cmpi .slt v61 c0_i32_49
  let v66 : BitVec 1 := Scalar.xori v64 v65
  let c0_i32_47 : BitVec 32 := 0#32
  let v63 : BitVec 1 := Scalar.cmpi .ne v62 c0_i32_47
  let v67 : BitVec 1 := Scalar.andi v66 v63
  let v68 : BitVec 32 := Scalar.addi v62 v61
  let v69 : BitVec 32 := Scalar.select v67 v68 v62
  let c4_i32_53 : BitVec 32 := 4#32
  let v72 : BitVec 32 := Scalar.muli v69 c4_i32_53
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v74 : BitVec 32 := Scalar.muli v8 c1_i32_54
  let v75 : BitVec 32 := Scalar.addi v73 v74
  v75.toNat
def k0_dev2 (d0 : Dev nD) : Nat :=
  let c0_i32_57 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_56 : BitVec 32 := 16#32
  let v76 : BitVec 32 := Scalar.muli v2 c16_i32_56
  let v77 : BitVec 32 := Scalar.addi c0_i32_57 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_58 : BitVec 32 := 4#32
  let v78 : BitVec 32 := Scalar.muli v19 c4_i32_58
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_59 : BitVec 32 := 1#32
  let v80 : BitVec 32 := Scalar.muli v8 c1_i32_59
  let v81 : BitVec 32 := Scalar.addi v79 v80
  v81.toNat
def k0_dev3 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_61 : BitVec 32 := 16#32
  let v82 : BitVec 32 := Scalar.muli v28 c16_i32_61
  let v83 : BitVec 32 := Scalar.addi c0_i32_62 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v84 : BitVec 32 := Scalar.muli v5 c4_i32_63
  let v85 : BitVec 32 := Scalar.addi v83 v84
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_64 : BitVec 32 := 1#32
  let v86 : BitVec 32 := Scalar.muli v36 c1_i32_64
  let v87 : BitVec 32 := Scalar.addi v85 v86
  v87.toNat
def k0_dev4 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_66 : BitVec 32 := 16#32
  let v88 : BitVec 32 := Scalar.muli v42 c16_i32_66
  let v89 : BitVec 32 := Scalar.addi c0_i32_67 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v90 : BitVec 32 := Scalar.muli v5 c4_i32_68
  let v91 : BitVec 32 := Scalar.addi v89 v90
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_69 : BitVec 32 := 1#32
  let v92 : BitVec 32 := Scalar.muli v50 c1_i32_69
  let v93 : BitVec 32 := Scalar.addi v91 v92
  v93.toNat
def k0_dev5 (d0 : Dev nD) : Nat :=
  let c0_i32_252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_251 : BitVec 32 := 16#32
  let v269 : BitVec 32 := Scalar.muli v2 c16_i32_251
  let v270 : BitVec 32 := Scalar.addi c0_i32_252 v269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_253 : BitVec 32 := 4#32
  let v271 : BitVec 32 := Scalar.muli v19 c4_i32_253
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_254 : BitVec 32 := 1#32
  let v273 : BitVec 32 := Scalar.muli v8 c1_i32_254
  let v274 : BitVec 32 := Scalar.addi v272 v273
  v274.toNat
def k0_dev6 (d0 : Dev nD) : Nat :=
  let c0_i32_360 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_359 : BitVec 32 := 16#32
  let v361 : BitVec 32 := Scalar.muli v2 c16_i32_359
  let v362 : BitVec 32 := Scalar.addi c0_i32_360 v361
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_361 : BitVec 32 := 4#32
  let v363 : BitVec 32 := Scalar.muli v19 c4_i32_361
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_362 : BitVec 32 := 1#32
  let v365 : BitVec 32 := Scalar.muli v8 c1_i32_362
  let v366 : BitVec 32 := Scalar.addi v364 v365
  v366.toNat
def k0_dev7 (d0 : Dev nD) : Nat :=
  let c0_i32_476 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_475 : BitVec 32 := 16#32
  let v461 : BitVec 32 := Scalar.muli v2 c16_i32_475
  let v462 : BitVec 32 := Scalar.addi c0_i32_476 v461
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_477 : BitVec 32 := 4#32
  let v463 : BitVec 32 := Scalar.muli v19 c4_i32_477
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_478 : BitVec 32 := 1#32
  let v465 : BitVec 32 := Scalar.muli v8 c1_i32_478
  let v466 : BitVec 32 := Scalar.addi v464 v465
  v466.toNat
def k0_off2 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v546 : Index := Scalar.indexCast v22
  let c0_564 : Index := 0#32
  let c0_565 : Index := 0#32
  ![v546.toNat, 0, 0]
def k0_off3 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let c256_i32_566 : BitVec 32 := 256#32
  let v550 : BitVec 32 := Scalar.muli v22 c256_i32_566
  let c0_i32_568 : BitVec 32 := 0#32
  ![v550.toNat, 0]
def k0_off4 (d0 : Dev nD) (c0_i32_577 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v560 : BitVec 32 := Scalar.subi v22 c0_i32_577
  let c8_i32 : BitVec 32 := 8#32
  let c0_i32_578 : BitVec 32 := 0#32
  let v561 : BitVec 1 := Scalar.cmpi .eq c8_i32 c0_i32_578
  let c1_i32_579 : BitVec 32 := 1#32
  let v562 : BitVec 32 := Scalar.select v561 c1_i32_579 c8_i32
  let v563 : BitVec 32 := Scalar.remsi v560 v562
  let c0_i32_581 : BitVec 32 := 0#32
  let v565 : BitVec 1 := Scalar.cmpi .slt v563 c0_i32_581
  let c0_i32_582 : BitVec 32 := 0#32
  let v566 : BitVec 1 := Scalar.cmpi .slt v562 c0_i32_582
  let v567 : BitVec 1 := Scalar.xori v565 v566
  let c0_i32_580 : BitVec 32 := 0#32
  let v564 : BitVec 1 := Scalar.cmpi .ne v563 c0_i32_580
  let v568 : BitVec 1 := Scalar.andi v567 v564
  let v569 : BitVec 32 := Scalar.addi v563 v562
  let v570 : BitVec 32 := Scalar.select v568 v569 v563
  let c0_i32_597 : BitVec 32 := 0#32
  let c0_i32_598 : BitVec 32 := 0#32
  ![v570.toNat, 0, 0]
def k0_dev8 (d0 : Dev nD) : Nat :=
  let c0_i32_594 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_593 : BitVec 32 := 16#32
  let v582 : BitVec 32 := Scalar.muli v28 c16_i32_593
  let v583 : BitVec 32 := Scalar.addi c0_i32_594 v582
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_595 : BitVec 32 := 4#32
  let v584 : BitVec 32 := Scalar.muli v5 c4_i32_595
  let v585 : BitVec 32 := Scalar.addi v583 v584
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_596 : BitVec 32 := 1#32
  let v586 : BitVec 32 := Scalar.muli v36 c1_i32_596
  let v587 : BitVec 32 := Scalar.addi v585 v586
  v587.toNat
def k0_off5 (d0 : Dev nD) (c0_i32_583 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v571 : BitVec 32 := Scalar.addi v22 c0_i32_583
  let c8_i32_584 : BitVec 32 := 8#32
  let c0_i32_585 : BitVec 32 := 0#32
  let v572 : BitVec 1 := Scalar.cmpi .eq c8_i32_584 c0_i32_585
  let c1_i32_586 : BitVec 32 := 1#32
  let v573 : BitVec 32 := Scalar.select v572 c1_i32_586 c8_i32_584
  let v574 : BitVec 32 := Scalar.remsi v571 v573
  let c0_i32_588 : BitVec 32 := 0#32
  let v576 : BitVec 1 := Scalar.cmpi .slt v574 c0_i32_588
  let c0_i32_589 : BitVec 32 := 0#32
  let v577 : BitVec 1 := Scalar.cmpi .slt v573 c0_i32_589
  let v578 : BitVec 1 := Scalar.xori v576 v577
  let c0_i32_587 : BitVec 32 := 0#32
  let v575 : BitVec 1 := Scalar.cmpi .ne v574 c0_i32_587
  let v579 : BitVec 1 := Scalar.andi v578 v575
  let v580 : BitVec 32 := Scalar.addi v574 v573
  let v581 : BitVec 32 := Scalar.select v579 v580 v574
  let c0_i32_608 : BitVec 32 := 0#32
  let c0_i32_609 : BitVec 32 := 0#32
  ![v581.toNat, 0, 0]
def k0_dev9 (d0 : Dev nD) : Nat :=
  let c0_i32_605 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_604 : BitVec 32 := 16#32
  let v596 : BitVec 32 := Scalar.muli v42 c16_i32_604
  let v597 : BitVec 32 := Scalar.addi c0_i32_605 v596
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_606 : BitVec 32 := 4#32
  let v598 : BitVec 32 := Scalar.muli v5 c4_i32_606
  let v599 : BitVec 32 := Scalar.addi v597 v598
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_607 : BitVec 32 := 1#32
  let v600 : BitVec 32 := Scalar.muli v50 c1_i32_607
  let v601 : BitVec 32 := Scalar.addi v599 v600
  v601.toNat
def k0_dev10 (d0 : Dev nD) : Nat :=
  let c0_i32_620 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_619 : BitVec 32 := 16#32
  let v610 : BitVec 32 := Scalar.muli v2 c16_i32_619
  let v611 : BitVec 32 := Scalar.addi c0_i32_620 v610
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_621 : BitVec 32 := 4#32
  let v612 : BitVec 32 := Scalar.muli v19 c4_i32_621
  let v613 : BitVec 32 := Scalar.addi v611 v612
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_622 : BitVec 32 := 1#32
  let v614 : BitVec 32 := Scalar.muli v8 c1_i32_622
  let v615 : BitVec 32 := Scalar.addi v613 v614
  v615.toNat
def k0_dev11 (d0 : Dev nD) : Nat :=
  let c0_i32_710 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_709 : BitVec 32 := 16#32
  let v700 : BitVec 32 := Scalar.muli v28 c16_i32_709
  let v701 : BitVec 32 := Scalar.addi c0_i32_710 v700
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_711 : BitVec 32 := 4#32
  let v702 : BitVec 32 := Scalar.muli v5 c4_i32_711
  let v703 : BitVec 32 := Scalar.addi v701 v702
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_712 : BitVec 32 := 1#32
  let v704 : BitVec 32 := Scalar.muli v36 c1_i32_712
  let v705 : BitVec 32 := Scalar.addi v703 v704
  v705.toNat
def k0_dev12 (d0 : Dev nD) : Nat :=
  let c0_i32_721 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_720 : BitVec 32 := 16#32
  let v714 : BitVec 32 := Scalar.muli v42 c16_i32_720
  let v715 : BitVec 32 := Scalar.addi c0_i32_721 v714
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_722 : BitVec 32 := 4#32
  let v716 : BitVec 32 := Scalar.muli v5 c4_i32_722
  let v717 : BitVec 32 := Scalar.addi v715 v716
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_723 : BitVec 32 := 1#32
  let v718 : BitVec 32 := Scalar.muli v50 c1_i32_723
  let v719 : BitVec 32 := Scalar.addi v717 v718
  v719.toNat
def k0_dev13 (d0 : Dev nD) : Nat :=
  let c0_i32_736 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_735 : BitVec 32 := 16#32
  let v728 : BitVec 32 := Scalar.muli v2 c16_i32_735
  let v729 : BitVec 32 := Scalar.addi c0_i32_736 v728
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_737 : BitVec 32 := 4#32
  let v730 : BitVec 32 := Scalar.muli v19 c4_i32_737
  let v731 : BitVec 32 := Scalar.addi v729 v730
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_738 : BitVec 32 := 1#32
  let v732 : BitVec 32 := Scalar.muli v8 c1_i32_738
  let v733 : BitVec 32 := Scalar.addi v731 v732
  v733.toNat
def k0_off6 (d0 : Dev nD) (c1_i32_743 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v742 : BitVec 32 := Scalar.subi v22 c1_i32_743
  let c8_i32_744 : BitVec 32 := 8#32
  let c0_i32_745 : BitVec 32 := 0#32
  let v743 : BitVec 1 := Scalar.cmpi .eq c8_i32_744 c0_i32_745
  let c1_i32_746 : BitVec 32 := 1#32
  let v744 : BitVec 32 := Scalar.select v743 c1_i32_746 c8_i32_744
  let v745 : BitVec 32 := Scalar.remsi v742 v744
  let c0_i32_748 : BitVec 32 := 0#32
  let v747 : BitVec 1 := Scalar.cmpi .slt v745 c0_i32_748
  let c0_i32_749 : BitVec 32 := 0#32
  let v748 : BitVec 1 := Scalar.cmpi .slt v744 c0_i32_749
  let v749 : BitVec 1 := Scalar.xori v747 v748
  let c0_i32_747 : BitVec 32 := 0#32
  let v746 : BitVec 1 := Scalar.cmpi .ne v745 c0_i32_747
  let v750 : BitVec 1 := Scalar.andi v749 v746
  let v751 : BitVec 32 := Scalar.addi v745 v744
  let v752 : BitVec 32 := Scalar.select v750 v751 v745
  let v753 : Index := Scalar.indexCast v752
  let c0_750 : Index := 0#32
  let c0_751 : Index := 0#32
  ![v753.toNat, 0, 0]
def k0_off7 (d0 : Dev nD) (c1_i32_743 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v742 : BitVec 32 := Scalar.subi v22 c1_i32_743
  let c8_i32_744 : BitVec 32 := 8#32
  let c0_i32_745 : BitVec 32 := 0#32
  let v743 : BitVec 1 := Scalar.cmpi .eq c8_i32_744 c0_i32_745
  let c1_i32_746 : BitVec 32 := 1#32
  let v744 : BitVec 32 := Scalar.select v743 c1_i32_746 c8_i32_744
  let v745 : BitVec 32 := Scalar.remsi v742 v744
  let c0_i32_748 : BitVec 32 := 0#32
  let v747 : BitVec 1 := Scalar.cmpi .slt v745 c0_i32_748
  let c0_i32_749 : BitVec 32 := 0#32
  let v748 : BitVec 1 := Scalar.cmpi .slt v744 c0_i32_749
  let v749 : BitVec 1 := Scalar.xori v747 v748
  let c0_i32_747 : BitVec 32 := 0#32
  let v746 : BitVec 1 := Scalar.cmpi .ne v745 c0_i32_747
  let v750 : BitVec 1 := Scalar.andi v749 v746
  let v751 : BitVec 32 := Scalar.addi v745 v744
  let v752 : BitVec 32 := Scalar.select v750 v751 v745
  let c256_i32_755 : BitVec 32 := 256#32
  let v760 : BitVec 32 := Scalar.muli v752 c256_i32_755
  let c0_i32_758 : BitVec 32 := 0#32
  ![v760.toNat, 0]
def k0_off8 (d0 : Dev nD) (c1_i32_761 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v766 : BitVec 32 := Scalar.addi v22 c1_i32_761
  let c8_i32_762 : BitVec 32 := 8#32
  let c0_i32_763 : BitVec 32 := 0#32
  let v767 : BitVec 1 := Scalar.cmpi .eq c8_i32_762 c0_i32_763
  let c1_i32_764 : BitVec 32 := 1#32
  let v768 : BitVec 32 := Scalar.select v767 c1_i32_764 c8_i32_762
  let v769 : BitVec 32 := Scalar.remsi v766 v768
  let c0_i32_766 : BitVec 32 := 0#32
  let v771 : BitVec 1 := Scalar.cmpi .slt v769 c0_i32_766
  let c0_i32_767 : BitVec 32 := 0#32
  let v772 : BitVec 1 := Scalar.cmpi .slt v768 c0_i32_767
  let v773 : BitVec 1 := Scalar.xori v771 v772
  let c0_i32_765 : BitVec 32 := 0#32
  let v770 : BitVec 1 := Scalar.cmpi .ne v769 c0_i32_765
  let v774 : BitVec 1 := Scalar.andi v773 v770
  let v775 : BitVec 32 := Scalar.addi v769 v768
  let v776 : BitVec 32 := Scalar.select v774 v775 v769
  let v777 : Index := Scalar.indexCast v776
  let c0_768 : Index := 0#32
  let c0_769 : Index := 0#32
  ![v777.toNat, 0, 0]
def k0_off9 (d0 : Dev nD) (c1_i32_761 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v766 : BitVec 32 := Scalar.addi v22 c1_i32_761
  let c8_i32_762 : BitVec 32 := 8#32
  let c0_i32_763 : BitVec 32 := 0#32
  let v767 : BitVec 1 := Scalar.cmpi .eq c8_i32_762 c0_i32_763
  let c1_i32_764 : BitVec 32 := 1#32
  let v768 : BitVec 32 := Scalar.select v767 c1_i32_764 c8_i32_762
  let v769 : BitVec 32 := Scalar.remsi v766 v768
  let c0_i32_766 : BitVec 32 := 0#32
  let v771 : BitVec 1 := Scalar.cmpi .slt v769 c0_i32_766
  let c0_i32_767 : BitVec 32 := 0#32
  let v772 : BitVec 1 := Scalar.cmpi .slt v768 c0_i32_767
  let v773 : BitVec 1 := Scalar.xori v771 v772
  let c0_i32_765 : BitVec 32 := 0#32
  let v770 : BitVec 1 := Scalar.cmpi .ne v769 c0_i32_765
  let v774 : BitVec 1 := Scalar.andi v773 v770
  let v775 : BitVec 32 := Scalar.addi v769 v768
  let v776 : BitVec 32 := Scalar.select v774 v775 v769
  let c256_i32_773 : BitVec 32 := 256#32
  let v784 : BitVec 32 := Scalar.muli v776 c256_i32_773
  let c0_i32_776 : BitVec 32 := 0#32
  ![v784.toNat, 0]
def k0_dev14 (d0 : Dev nD) : Nat :=
  let c0_i32_870 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_869 : BitVec 32 := 16#32
  let v874 : BitVec 32 := Scalar.muli v28 c16_i32_869
  let v875 : BitVec 32 := Scalar.addi c0_i32_870 v874
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_871 : BitVec 32 := 4#32
  let v876 : BitVec 32 := Scalar.muli v5 c4_i32_871
  let v877 : BitVec 32 := Scalar.addi v875 v876
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_872 : BitVec 32 := 1#32
  let v878 : BitVec 32 := Scalar.muli v36 c1_i32_872
  let v879 : BitVec 32 := Scalar.addi v877 v878
  v879.toNat
def k0_dev15 (d0 : Dev nD) : Nat :=
  let c0_i32_881 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_880 : BitVec 32 := 16#32
  let v888 : BitVec 32 := Scalar.muli v42 c16_i32_880
  let v889 : BitVec 32 := Scalar.addi c0_i32_881 v888
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_882 : BitVec 32 := 4#32
  let v890 : BitVec 32 := Scalar.muli v5 c4_i32_882
  let v891 : BitVec 32 := Scalar.addi v889 v890
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_883 : BitVec 32 := 1#32
  let v892 : BitVec 32 := Scalar.muli v50 c1_i32_883
  let v893 : BitVec 32 := Scalar.addi v891 v892
  v893.toNat
def k0_dev16 (d0 : Dev nD) : Nat :=
  let c0_i32_896 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_895 : BitVec 32 := 16#32
  let v902 : BitVec 32 := Scalar.muli v2 c16_i32_895
  let v903 : BitVec 32 := Scalar.addi c0_i32_896 v902
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.addi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_897 : BitVec 32 := 4#32
  let v904 : BitVec 32 := Scalar.muli v19 c4_i32_897
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_898 : BitVec 32 := 1#32
  let v906 : BitVec 32 := Scalar.muli v8 c1_i32_898
  let v907 : BitVec 32 := Scalar.addi v905 v906
  v907.toNat
def k0_off10 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1046 : Index := Scalar.indexCast v22
  let c0_1032 : Index := 0#32
  let c1024_1033 : Index := 1024#32
  ![v1046.toNat, 0, 1024]
def k0_off11 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let c256_i32_1034 : BitVec 32 := 256#32
  let v1050 : BitVec 32 := Scalar.muli v22 c256_i32_1034
  let c1024_i32_1036 : BitVec 32 := 1024#32
  ![v1050.toNat, 1024]
def k0_off12 (d0 : Dev nD) (c0_i32_1039 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1055 : BitVec 32 := Scalar.subi v22 c0_i32_1039
  let c8_i32_1040 : BitVec 32 := 8#32
  let c0_i32_1041 : BitVec 32 := 0#32
  let v1056 : BitVec 1 := Scalar.cmpi .eq c8_i32_1040 c0_i32_1041
  let c1_i32_1042 : BitVec 32 := 1#32
  let v1057 : BitVec 32 := Scalar.select v1056 c1_i32_1042 c8_i32_1040
  let v1058 : BitVec 32 := Scalar.remsi v1055 v1057
  let c0_i32_1044 : BitVec 32 := 0#32
  let v1060 : BitVec 1 := Scalar.cmpi .slt v1058 c0_i32_1044
  let c0_i32_1045 : BitVec 32 := 0#32
  let v1061 : BitVec 1 := Scalar.cmpi .slt v1057 c0_i32_1045
  let v1062 : BitVec 1 := Scalar.xori v1060 v1061
  let c0_i32_1043 : BitVec 32 := 0#32
  let v1059 : BitVec 1 := Scalar.cmpi .ne v1058 c0_i32_1043
  let v1063 : BitVec 1 := Scalar.andi v1062 v1059
  let v1064 : BitVec 32 := Scalar.addi v1058 v1057
  let v1065 : BitVec 32 := Scalar.select v1063 v1064 v1058
  let c0_i32_1067 : BitVec 32 := 0#32
  let c1024_i32_1068 : BitVec 32 := 1024#32
  ![v1065.toNat, 0, 1024]
def k0_dev17 (d0 : Dev nD) : Nat :=
  let c0_i32_1064 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_1063 : BitVec 32 := 16#32
  let v1088 : BitVec 32 := Scalar.muli v28 c16_i32_1063
  let v1089 : BitVec 32 := Scalar.addi c0_i32_1064 v1088
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1065 : BitVec 32 := 4#32
  let v1090 : BitVec 32 := Scalar.muli v5 c4_i32_1065
  let v1091 : BitVec 32 := Scalar.addi v1089 v1090
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_1066 : BitVec 32 := 1#32
  let v1092 : BitVec 32 := Scalar.muli v36 c1_i32_1066
  let v1093 : BitVec 32 := Scalar.addi v1091 v1092
  v1093.toNat
def k0_off13 (d0 : Dev nD) (c0_i32_1046 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1066 : BitVec 32 := Scalar.addi v22 c0_i32_1046
  let c8_i32_1047 : BitVec 32 := 8#32
  let c0_i32_1048 : BitVec 32 := 0#32
  let v1067 : BitVec 1 := Scalar.cmpi .eq c8_i32_1047 c0_i32_1048
  let c1_i32_1049 : BitVec 32 := 1#32
  let v1068 : BitVec 32 := Scalar.select v1067 c1_i32_1049 c8_i32_1047
  let v1069 : BitVec 32 := Scalar.remsi v1066 v1068
  let c0_i32_1051 : BitVec 32 := 0#32
  let v1071 : BitVec 1 := Scalar.cmpi .slt v1069 c0_i32_1051
  let c0_i32_1052 : BitVec 32 := 0#32
  let v1072 : BitVec 1 := Scalar.cmpi .slt v1068 c0_i32_1052
  let v1073 : BitVec 1 := Scalar.xori v1071 v1072
  let c0_i32_1050 : BitVec 32 := 0#32
  let v1070 : BitVec 1 := Scalar.cmpi .ne v1069 c0_i32_1050
  let v1074 : BitVec 1 := Scalar.andi v1073 v1070
  let v1075 : BitVec 32 := Scalar.addi v1069 v1068
  let v1076 : BitVec 32 := Scalar.select v1074 v1075 v1069
  let c0_i32_1078 : BitVec 32 := 0#32
  let c1024_i32_1079 : BitVec 32 := 1024#32
  ![v1076.toNat, 0, 1024]
def k0_dev18 (d0 : Dev nD) : Nat :=
  let c0_i32_1075 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_1074 : BitVec 32 := 16#32
  let v1102 : BitVec 32 := Scalar.muli v42 c16_i32_1074
  let v1103 : BitVec 32 := Scalar.addi c0_i32_1075 v1102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1076 : BitVec 32 := 4#32
  let v1104 : BitVec 32 := Scalar.muli v5 c4_i32_1076
  let v1105 : BitVec 32 := Scalar.addi v1103 v1104
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_1077 : BitVec 32 := 1#32
  let v1106 : BitVec 32 := Scalar.muli v50 c1_i32_1077
  let v1107 : BitVec 32 := Scalar.addi v1105 v1106
  v1107.toNat
def k0_dev19 (d0 : Dev nD) : Nat :=
  let c0_i32_1086 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_1085 : BitVec 32 := 16#32
  let v1116 : BitVec 32 := Scalar.muli v28 c16_i32_1085
  let v1117 : BitVec 32 := Scalar.addi c0_i32_1086 v1116
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1087 : BitVec 32 := 4#32
  let v1118 : BitVec 32 := Scalar.muli v5 c4_i32_1087
  let v1119 : BitVec 32 := Scalar.addi v1117 v1118
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_1088 : BitVec 32 := 1#32
  let v1120 : BitVec 32 := Scalar.muli v36 c1_i32_1088
  let v1121 : BitVec 32 := Scalar.addi v1119 v1120
  v1121.toNat
def k0_dev20 (d0 : Dev nD) : Nat :=
  let c0_i32_1214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_1213 : BitVec 32 := 16#32
  let v1264 : BitVec 32 := Scalar.muli v28 c16_i32_1213
  let v1265 : BitVec 32 := Scalar.addi c0_i32_1214 v1264
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1215 : BitVec 32 := 4#32
  let v1266 : BitVec 32 := Scalar.muli v5 c4_i32_1215
  let v1267 : BitVec 32 := Scalar.addi v1265 v1266
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_1216 : BitVec 32 := 1#32
  let v1268 : BitVec 32 := Scalar.muli v36 c1_i32_1216
  let v1269 : BitVec 32 := Scalar.addi v1267 v1268
  v1269.toNat
def k0_dev21 (d0 : Dev nD) : Nat :=
  let c0_i32_1225 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_1224 : BitVec 32 := 16#32
  let v1278 : BitVec 32 := Scalar.muli v42 c16_i32_1224
  let v1279 : BitVec 32 := Scalar.addi c0_i32_1225 v1278
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1226 : BitVec 32 := 4#32
  let v1280 : BitVec 32 := Scalar.muli v5 c4_i32_1226
  let v1281 : BitVec 32 := Scalar.addi v1279 v1280
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_1227 : BitVec 32 := 1#32
  let v1282 : BitVec 32 := Scalar.muli v50 c1_i32_1227
  let v1283 : BitVec 32 := Scalar.addi v1281 v1282
  v1283.toNat
def k0_off14 (d0 : Dev nD) (c1_i32_1255 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1321 : BitVec 32 := Scalar.subi v22 c1_i32_1255
  let c8_i32_1256 : BitVec 32 := 8#32
  let c0_i32_1257 : BitVec 32 := 0#32
  let v1322 : BitVec 1 := Scalar.cmpi .eq c8_i32_1256 c0_i32_1257
  let c1_i32_1258 : BitVec 32 := 1#32
  let v1323 : BitVec 32 := Scalar.select v1322 c1_i32_1258 c8_i32_1256
  let v1324 : BitVec 32 := Scalar.remsi v1321 v1323
  let c0_i32_1260 : BitVec 32 := 0#32
  let v1326 : BitVec 1 := Scalar.cmpi .slt v1324 c0_i32_1260
  let c0_i32_1261 : BitVec 32 := 0#32
  let v1327 : BitVec 1 := Scalar.cmpi .slt v1323 c0_i32_1261
  let v1328 : BitVec 1 := Scalar.xori v1326 v1327
  let c0_i32_1259 : BitVec 32 := 0#32
  let v1325 : BitVec 1 := Scalar.cmpi .ne v1324 c0_i32_1259
  let v1329 : BitVec 1 := Scalar.andi v1328 v1325
  let v1330 : BitVec 32 := Scalar.addi v1324 v1323
  let v1331 : BitVec 32 := Scalar.select v1329 v1330 v1324
  let v1337 : Index := Scalar.indexCast v1331
  let c0_1267 : Index := 0#32
  let c1024_1268 : Index := 1024#32
  ![v1337.toNat, 0, 1024]
def k0_off15 (d0 : Dev nD) (c1_i32_1255 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1321 : BitVec 32 := Scalar.subi v22 c1_i32_1255
  let c8_i32_1256 : BitVec 32 := 8#32
  let c0_i32_1257 : BitVec 32 := 0#32
  let v1322 : BitVec 1 := Scalar.cmpi .eq c8_i32_1256 c0_i32_1257
  let c1_i32_1258 : BitVec 32 := 1#32
  let v1323 : BitVec 32 := Scalar.select v1322 c1_i32_1258 c8_i32_1256
  let v1324 : BitVec 32 := Scalar.remsi v1321 v1323
  let c0_i32_1260 : BitVec 32 := 0#32
  let v1326 : BitVec 1 := Scalar.cmpi .slt v1324 c0_i32_1260
  let c0_i32_1261 : BitVec 32 := 0#32
  let v1327 : BitVec 1 := Scalar.cmpi .slt v1323 c0_i32_1261
  let v1328 : BitVec 1 := Scalar.xori v1326 v1327
  let c0_i32_1259 : BitVec 32 := 0#32
  let v1325 : BitVec 1 := Scalar.cmpi .ne v1324 c0_i32_1259
  let v1329 : BitVec 1 := Scalar.andi v1328 v1325
  let v1330 : BitVec 32 := Scalar.addi v1324 v1323
  let v1331 : BitVec 32 := Scalar.select v1329 v1330 v1324
  let c256_i32_1272 : BitVec 32 := 256#32
  let v1344 : BitVec 32 := Scalar.muli v1331 c256_i32_1272
  let c1024_i32_1275 : BitVec 32 := 1024#32
  ![v1344.toNat, 1024]
def k0_off16 (d0 : Dev nD) (c1_i32_1278 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1350 : BitVec 32 := Scalar.addi v22 c1_i32_1278
  let c8_i32_1279 : BitVec 32 := 8#32
  let c0_i32_1280 : BitVec 32 := 0#32
  let v1351 : BitVec 1 := Scalar.cmpi .eq c8_i32_1279 c0_i32_1280
  let c1_i32_1281 : BitVec 32 := 1#32
  let v1352 : BitVec 32 := Scalar.select v1351 c1_i32_1281 c8_i32_1279
  let v1353 : BitVec 32 := Scalar.remsi v1350 v1352
  let c0_i32_1283 : BitVec 32 := 0#32
  let v1355 : BitVec 1 := Scalar.cmpi .slt v1353 c0_i32_1283
  let c0_i32_1284 : BitVec 32 := 0#32
  let v1356 : BitVec 1 := Scalar.cmpi .slt v1352 c0_i32_1284
  let v1357 : BitVec 1 := Scalar.xori v1355 v1356
  let c0_i32_1282 : BitVec 32 := 0#32
  let v1354 : BitVec 1 := Scalar.cmpi .ne v1353 c0_i32_1282
  let v1358 : BitVec 1 := Scalar.andi v1357 v1354
  let v1359 : BitVec 32 := Scalar.addi v1353 v1352
  let v1360 : BitVec 32 := Scalar.select v1358 v1359 v1353
  let v1366 : Index := Scalar.indexCast v1360
  let c0_1290 : Index := 0#32
  let c1024_1291 : Index := 1024#32
  ![v1366.toNat, 0, 1024]
def k0_off17 (d0 : Dev nD) (c1_i32_1278 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_8 : BitVec 32 := 0#32
  let v20 : BitVec 1 := Scalar.cmpi .eq v2 c0_i32_8
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v21 : BitVec 32 := Scalar.subi c7_i32 v8
  let v22 : BitVec 32 := Scalar.select v20 v8 v21
  let v1350 : BitVec 32 := Scalar.addi v22 c1_i32_1278
  let c8_i32_1279 : BitVec 32 := 8#32
  let c0_i32_1280 : BitVec 32 := 0#32
  let v1351 : BitVec 1 := Scalar.cmpi .eq c8_i32_1279 c0_i32_1280
  let c1_i32_1281 : BitVec 32 := 1#32
  let v1352 : BitVec 32 := Scalar.select v1351 c1_i32_1281 c8_i32_1279
  let v1353 : BitVec 32 := Scalar.remsi v1350 v1352
  let c0_i32_1283 : BitVec 32 := 0#32
  let v1355 : BitVec 1 := Scalar.cmpi .slt v1353 c0_i32_1283
  let c0_i32_1284 : BitVec 32 := 0#32
  let v1356 : BitVec 1 := Scalar.cmpi .slt v1352 c0_i32_1284
  let v1357 : BitVec 1 := Scalar.xori v1355 v1356
  let c0_i32_1282 : BitVec 32 := 0#32
  let v1354 : BitVec 1 := Scalar.cmpi .ne v1353 c0_i32_1282
  let v1358 : BitVec 1 := Scalar.andi v1357 v1354
  let v1359 : BitVec 32 := Scalar.addi v1353 v1352
  let v1360 : BitVec 32 := Scalar.select v1358 v1359 v1353
  let c256_i32_1295 : BitVec 32 := 256#32
  let v1373 : BitVec 32 := Scalar.muli v1360 c256_i32_1295
  let c1024_i32_1298 : BitVec 32 := 1024#32
  ![v1373.toNat, 1024]
def k0_dev22 (d0 : Dev nD) : Nat :=
  let c0_i32_1357 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_1356 : BitVec 32 := 16#32
  let v1437 : BitVec 32 := Scalar.muli v28 c16_i32_1356
  let v1438 : BitVec 32 := Scalar.addi c0_i32_1357 v1437
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1358 : BitVec 32 := 4#32
  let v1439 : BitVec 32 := Scalar.muli v5 c4_i32_1358
  let v1440 : BitVec 32 := Scalar.addi v1438 v1439
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_1359 : BitVec 32 := 1#32
  let v1441 : BitVec 32 := Scalar.muli v36 c1_i32_1359
  let v1442 : BitVec 32 := Scalar.addi v1440 v1441
  v1442.toNat
def k0_dev23 (d0 : Dev nD) : Nat :=
  let c0_i32_1368 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_22 : BitVec 32 := 0#32
  let v37 : BitVec 1 := Scalar.cmpi .eq v2 c0_i32_22
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_23 : BitVec 32 := 0#32
  let v38 : BitVec 1 := Scalar.cmpi .eq v8 c0_i32_23
  let c1_i32_24 : BitVec 32 := 1#32
  let c0_i32_25 : BitVec 32 := 0#32
  let v39 : BitVec 32 := Scalar.select v38 c1_i32_24 c0_i32_25
  let c3_i32_26 : BitVec 32 := 3#32
  let v40 : BitVec 1 := Scalar.cmpi .eq v8 c3_i32_26
  let c0_i32_27 : BitVec 32 := 0#32
  let c1_i32_28 : BitVec 32 := 1#32
  let v41 : BitVec 32 := Scalar.select v40 c0_i32_27 c1_i32_28
  let v42 : BitVec 32 := Scalar.select v37 v39 v41
  let c16_i32_1367 : BitVec 32 := 16#32
  let v1451 : BitVec 32 := Scalar.muli v42 c16_i32_1367
  let v1452 : BitVec 32 := Scalar.addi c0_i32_1368 v1451
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1369 : BitVec 32 := 4#32
  let v1453 : BitVec 32 := Scalar.muli v5 c4_i32_1369
  let v1454 : BitVec 32 := Scalar.addi v1452 v1453
  let c0_i32_29 : BitVec 32 := 0#32
  let v43 : BitVec 1 := Scalar.cmpi .eq v2 c0_i32_29
  let c0_i32_30 : BitVec 32 := 0#32
  let v44 : BitVec 1 := Scalar.cmpi .eq v8 c0_i32_30
  let c0_i32_32 : BitVec 32 := 0#32
  let c1_i32_31 : BitVec 32 := 1#32
  let v45 : BitVec 32 := Scalar.subi v8 c1_i32_31
  let v46 : BitVec 32 := Scalar.select v44 c0_i32_32 v45
  let c3_i32_33 : BitVec 32 := 3#32
  let v47 : BitVec 1 := Scalar.cmpi .eq v8 c3_i32_33
  let c3_i32_35 : BitVec 32 := 3#32
  let c1_i32_34 : BitVec 32 := 1#32
  let v48 : BitVec 32 := Scalar.addi v8 c1_i32_34
  let v49 : BitVec 32 := Scalar.select v47 c3_i32_35 v48
  let v50 : BitVec 32 := Scalar.select v43 v46 v49
  let c1_i32_1370 : BitVec 32 := 1#32
  let v1455 : BitVec 32 := Scalar.muli v50 c1_i32_1370
  let v1456 : BitVec 32 := Scalar.addi v1454 v1455
  v1456.toNat
def k0_dev24 (d0 : Dev nD) : Nat :=
  let c0_i32_1470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32_9 : BitVec 32 := 0#32
  let v23 : BitVec 1 := Scalar.cmpi .eq v2 c0_i32_9
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c3_i32 : BitVec 32 := 3#32
  let v24 : BitVec 1 := Scalar.cmpi .eq v8 c3_i32
  let c1_i32_10 : BitVec 32 := 1#32
  let c0_i32_11 : BitVec 32 := 0#32
  let v25 : BitVec 32 := Scalar.select v24 c1_i32_10 c0_i32_11
  let c0_i32_12 : BitVec 32 := 0#32
  let v26 : BitVec 1 := Scalar.cmpi .eq v8 c0_i32_12
  let c0_i32_13 : BitVec 32 := 0#32
  let c1_i32_14 : BitVec 32 := 1#32
  let v27 : BitVec 32 := Scalar.select v26 c0_i32_13 c1_i32_14
  let v28 : BitVec 32 := Scalar.select v23 v25 v27
  let c16_i32_1469 : BitVec 32 := 16#32
  let v1570 : BitVec 32 := Scalar.muli v28 c16_i32_1469
  let v1571 : BitVec 32 := Scalar.addi c0_i32_1470 v1570
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1471 : BitVec 32 := 4#32
  let v1572 : BitVec 32 := Scalar.muli v5 c4_i32_1471
  let v1573 : BitVec 32 := Scalar.addi v1571 v1572
  let c0_i32_15 : BitVec 32 := 0#32
  let v29 : BitVec 1 := Scalar.cmpi .eq v2 c0_i32_15
  let c3_i32_16 : BitVec 32 := 3#32
  let v30 : BitVec 1 := Scalar.cmpi .eq v8 c3_i32_16
  let c3_i32_18 : BitVec 32 := 3#32
  let c1_i32_17 : BitVec 32 := 1#32
  let v31 : BitVec 32 := Scalar.addi v8 c1_i32_17
  let v32 : BitVec 32 := Scalar.select v30 c3_i32_18 v31
  let c0_i32_19 : BitVec 32 := 0#32
  let v33 : BitVec 1 := Scalar.cmpi .eq v8 c0_i32_19
  let c0_i32_21 : BitVec 32 := 0#32
  let c1_i32_20 : BitVec 32 := 1#32
  let v34 : BitVec 32 := Scalar.subi v8 c1_i32_20
  let v35 : BitVec 32 := Scalar.select v33 c0_i32_21 v34
  let v36 : BitVec 32 := Scalar.select v29 v32 v35
  let c1_i32_1472 : BitVec 32 := 1#32
  let v1574 : BitVec 32 := Scalar.muli v36 c1_i32_1472
  let v1575 : BitVec 32 := Scalar.addi v1573 v1574
  v1575.toNat
-- ==== ReferenceIdeal.lean ====
abbrev S2048x32768 : Shape := ⟨2, ![2048, 32768]⟩
abbrev S32768x2048 : Shape := ⟨2, ![32768, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x32768, .f32⟩
  | .hbm, ⟨1, _⟩ => ⟨S2048x32768, .f32⟩
  | .hbm, ⟨2, _⟩ => ⟨S32768x2048, .f32⟩
  | .hbm, ⟨3, _⟩ => ⟨S2048x2048, .f32⟩
  | _, _ => ⟨S2048x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Own.lean ====
/-
  Owning a window of a buffer at contents: what the operations of a program do to it. A load reads the contents, a
  store replaces them, a local copy delivers the source's contents in the destination, an addressed copy delivers them
  on the target device; a window seen at a shape with its unit axes dropped is the same window.
-/
module

public import Idealize.ShloMosaic.Lib.Memref
public import Idealize.ShloMosaic.Lib.Transfers
public import Idealize.ShloMosaic.Lib.Rounds
public import Idealize.ShloMosaic.Lib.Tactic

@[expose] public section

noncomputable section

namespace Cert.Own

open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

section Windows
variable (c : Thread nD τ) {sp : Space} {s : Shape} {e : EltTy} (m : Memref sig c.2.kind sp s e) (q : PosShare TreeShare)

/-- A window with its unit axes dropped, owned at the contents read through the change of index, is the window. -/
theorem owns_squeeze (s' : Shape) (h : s.Squeezes s') (X : s.Idx → Val e) :
    (owns c (m.squeeze s' h) q (fun i => X (Shape.reshapeEquiv h.numel_eq i)) : sProp 𝕄) = owns c m q X := by
  unfold owns
  have hset : (m.squeeze s' h).view.set = m.view.set := View.set_reshape _ _
  have hread (f : m.view.ty.Contents Val) :
      ((m.squeeze s' h).view.read Val f = fun i => X (Shape.reshapeEquiv h.numel_eq i)) = (m.view.read Val f = X) := by
    refine propext ⟨fun H => funext fun i => ?_, fun H => by rw [← H]; rfl⟩
    have := congrFun H ((Shape.reshapeEquiv h.numel_eq).symm i)
    simp only [Equiv.apply_symm_apply] at this
    rw [← this]
    show _ = m.view.read Val f (Shape.reshapeEquiv h.numel_eq ((Shape.reshapeEquiv h.numel_eq).symm i))
    rw [Equiv.apply_symm_apply]
  show iprop(∃ f : m.view.ty.Contents Val, ⌜(m.squeeze s' h).view.read Val f = fun i => X (Shape.reshapeEquiv h.numel_eq i)⌝
      ∗ (m.view.loc c ↦[(m.squeeze s' h).view.set]{q} f)) = _
  simp only [hread, hset]

/-- A window owned at some contents. -/
def owned : sProp 𝕄 := iprop(∃ X, owns c m q X)

instance owned_storable : BI.Storable (upEmb : UEmb _ 𝕄) (owned (U := U) (Lvl := Lvl) (Val := Val) (Ix := Ix) (Name := Name) c m q) := by
  unfold owned; infer_instance

theorem owned_intro (X : s.Idx → Val e) : (owns c m q X : sProp 𝕄) ⊢ owned c m q := by
  unfold owned; iintro H; iexists X; iexact H

/-- Dropping unit axes of a window owned at some contents. -/
theorem owned_squeeze (s' : Shape) (h : s.Squeezes s') :
    (owned c (m.squeeze s' h) q : sProp 𝕄) ⊣⊢ owned c m q := by
  unfold owned
  constructor
  · iintro ⟨%X, H⟩
    iexists fun i => X ((Shape.reshapeEquiv h.numel_eq).symm i)
    have := owns_squeeze (Ix := Ix) (Name := Name) (U := U) (Lvl := Lvl) c m q s' h (fun i => X ((Shape.reshapeEquiv h.numel_eq).symm i))
    simp only [Equiv.symm_apply_apply] at this
    rw [← this]; iexact H
  · iintro ⟨%X, H⟩
    iexists fun i => X (Shape.reshapeEquiv h.numel_eq i)
    rw [owns_squeeze]; iexact H

/-- The two halves of a window's share. -/
theorem owns_halves (X : s.Idx → Val e) :
    (owns c m fullShare X : sProp 𝕄) ⊢ iprop(owns c m fullShare.left X ∗ owns c m fullShare.right X) := by
  unfold owns
  iintro ⟨%f, %hf, H⟩
  ihave H' := (pointsTo_share (PosShare.mem_left_op_right fullShare)).1 $$ H
  icases H' with ⟨H1, H2⟩
  isplitl [H1]
  · iexists f; isplitr; · ipureintro; exact hf
    iexact H1
  · iexists f; isplitr; · ipureintro; exact hf
    iexact H2

/-- The two halves of a window's share joined: they read the same contents. -/
theorem owns_join (X Y : s.Idx → Val e) :
    iprop(owns c m fullShare.left X ∗ owns c m fullShare.right Y) ⊢ (owns c m fullShare Y : sProp 𝕄) := by
  unfold owns
  iintro ⟨⟨%f, %hf, H1⟩, ⟨%g, %hg, H2⟩⟩
  ihave Hb := (persistent_entails_right (pointsTo_agree (ℓ := m.view.loc c) (I := m.view.set) (J := m.view.set) (q₁ := fullShare.left) (q₂ := fullShare.right) (f := f) (g := g))) $$ [H1 H2]
  · isplitl [H1] <;> iassumption
  icases Hb with ⟨%ha, H1, H2⟩
  iexists g
  isplitr; · ipureintro; exact hg
  have hfg : (m.view.loc c ↦[m.view.set]{fullShare.left} f : sProp 𝕄) ⊢ m.view.loc c ↦[m.view.set]{fullShare.left} g :=
    Entails.of_eq (pointsTo_congr fun i hi => (ha i (Finset.mem_inter.mpr ⟨hi, hi⟩)).1)
  have hj := (sep_mono_left hfg).trans (pointsTo_share (Ix := Ix) (Name := Name) (U := U) (Lvl := Lvl) (ℓ := m.view.loc c) (I := m.view.set) (f := g) (PosShare.mem_left_op_right fullShare)).2
  iapply (Entails.trans hj .rfl)
  isplitl [H1]
  · iexact H1
  · iexact H2

/-- Part of a window lent out, to be given back. -/
theorem own_borrow {r : Rect s} (hr : ∀ a, r.stride a = 1) (X : s.Idx → Val e) :
    (owns c m q X : sProp 𝕄) ⊢ iprop(owns c (m.slice r hr) q (fun j => X (r.emb j)) ∗ (owns c (m.slice r hr) q (fun j => X (r.emb j)) -∗ owns c m q X)) := by
  iintro H
  ihave H' := (show owns c m q X ⊢ iprop(∃ g, ⌜m.view.read Val g = X⌝ ∗ m.view.loc c ↦[m.view.set]{q} g) from .rfl) $$ H
  icases H' with ⟨%g, %hg, H⟩
  subst hg
  rw [owns_slice_read]
  ihave H' := (pointsTo_split_subset (m.view.set_slice_subset r)).1 $$ H
  icases H' with ⟨Hs, Hr⟩
  isplitl [Hs]; · iexact Hs
  iintro Hs
  iapply (owns_intro c m q g)
  iapply (Entails.trans (pointsTo_split_subset (m.view.set_slice_subset r)).2 .rfl)
  isplitl [Hs]; · iexact Hs
  iexact Hr

end Windows

section Step
variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {cs : CoreSpace}

/-- A load of a rectangle of a window owned at `X`. -/
theorem own_load {m : Memref sig c.2.kind cs s e} {r : Rect s} {hl : m.view.LoadsAt r} {q : PosShare TreeShare} {X : s.Idx → Val e}
    {k : (r.shape.Idx → Val e) → Prog (TpuEff nD τ sig Val Λ c.2) α} :
    (owns c m q X : sProp 𝕄)
      ⊢ iprop((owns c m q X -∗ wp frame (wpE defs 𝒱 c bd) Set.univ (k fun j => X (r.emb j)) Q)
        -∗ wp frame (wpE defs 𝒱 c bd) Set.univ (.op (.load m r.toLoadRect hl) k) Q) := by
  iintro H Hk
  ihave H' := (show owns c m q X ⊢ iprop(∃ g, ⌜m.view.read Val g = X⌝ ∗ m.view.loc c ↦[m.view.set]{q} g) from .rfl) $$ H
  icases H' with ⟨%f, %hf, H⟩
  subst hf
  iapply (wp_load_rect 𝒱 c bd Set.univ (m := m) (r := r) (m.view.set_slice_subset r)) $$ H
  iintro H
  iapply Hk
  iapply (owns_intro c m q f)
  iexact H

/-- A load of just the rectangle owned. -/
theorem own_load_slice {m : Memref sig c.2.kind cs s e} {r : Rect s} {hr : ∀ a, r.stride a = 1} {hl : m.view.LoadsAt r} {q : PosShare TreeShare} {X : r.shape.Idx → Val e}
    {k : (r.shape.Idx → Val e) → Prog (TpuEff nD τ sig Val Λ c.2) α} :
    (owns c (m.slice r hr) q X : sProp 𝕄)
      ⊢ iprop((owns c (m.slice r hr) q X -∗ wp frame (wpE defs 𝒱 c bd) Set.univ (k X) Q)
        -∗ wp frame (wpE defs 𝒱 c bd) Set.univ (.op (.load m r.toLoadRect hl) k) Q) := by
  iintro H Hk
  ihave H' := (show owns c (m.slice r hr) q X ⊢ iprop(∃ g, ⌜(m.slice r hr).view.read Val g = X⌝ ∗ (m.slice r hr).view.loc c ↦[(m.slice r hr).view.set]{q} g) from .rfl) $$ H
  icases H' with ⟨%f, %hf, H⟩
  subst hf
  iapply (wp_load_rect 𝒱 c bd Set.univ (m := m) (r := r) (S := (m.slice r hr).view.set) (Finset.Subset.refl _)) $$ H
  iintro H
  iapply Hk
  iapply (owns_intro c (m.slice r hr) q f)
  iexact H

/-- A store over just the rectangle owned. -/
theorem own_store_slice {m : Memref sig c.2.kind cs s e} {r : Rect s} {hr : ∀ a, r.stride a = 1} {w : r.shape.Idx → Val e}
    {hx : (m.access r).Stores Finset.univ} {hm : Finset.univ = Finset.univ ∨ ∀ a, r.stride a = 1} {X : r.shape.Idx → Val e}
    {k : PUnit → Prog (TpuEff nD τ sig Val Λ c.2) α} :
    (owns c (m.slice r hr) fullShare X : sProp 𝕄)
      ⊢ iprop((owns c (m.slice r hr) fullShare w -∗ wp frame (wpE defs 𝒱 c bd) Set.univ (k ⟨⟩) Q)
        -∗ wp frame (wpE defs 𝒱 c bd) Set.univ (.op (.store m r w Finset.univ hx hm) k) Q) := by
  iintro H Hk
  ihave H' := (show owns c (m.slice r hr) fullShare X ⊢ iprop(∃ g, ⌜(m.slice r hr).view.read Val g = X⌝ ∗ (m.slice r hr).view.loc c ↦[(m.slice r hr).view.set]{fullShare} g) from .rfl) $$ H
  icases H' with ⟨%f, %hf, H⟩
  iapply (wp_store 𝒱 c bd Set.univ (m := m) (r := r) (S := (m.slice r hr).view.set) (by exact Finset.Subset.refl _)) $$ H
  iintro H
  iapply Hk
  have hw : (m.slice r hr).view.read Val ((m.access r).write Val f w Finset.univ) = w := View.read_write_univ (v := m.access r) f w
  ihave H' := (owns_intro (Val := Val) c (m.slice r hr) fullShare ((m.access r).write Val f w Finset.univ)) $$ H
  rw [hw]
  iexact H'

/-- A store over a rectangle of a window owned: the new contents read `w` on the rectangle. -/
theorem own_store {m : Memref sig c.2.kind cs s e} {r : Rect s} {w : r.shape.Idx → Val e}
    {hx : (m.access r).Stores Finset.univ} {hm : Finset.univ = Finset.univ ∨ ∀ a, r.stride a = 1} {X : s.Idx → Val e}
    {k : PUnit → Prog (TpuEff nD τ sig Val Λ c.2) α} :
    (owns c m fullShare X : sProp 𝕄)
      ⊢ iprop((∀ Y, ⌜∀ j, Y (r.emb j) = w j⌝ -∗ owns c m fullShare Y -∗ wp frame (wpE defs 𝒱 c bd) Set.univ (k ⟨⟩) Q)
        -∗ wp frame (wpE defs 𝒱 c bd) Set.univ (.op (.store m r w Finset.univ hx hm) k) Q) := by
  iintro H Hk
  ihave H' := (show owns c m fullShare X ⊢ iprop(∃ g, ⌜m.view.read Val g = X⌝ ∗ m.view.loc c ↦[m.view.set]{fullShare} g) from .rfl) $$ H
  icases H' with ⟨%f, %hf, H⟩
  iapply (wp_store 𝒱 c bd Set.univ (m := m) (r := r) (S := m.view.set) (m.view.set_slice_subset r)) $$ H
  iintro H
  iapply Hk $$ %(m.view.read Val ((m.access r).write Val f w Finset.univ)) [] [H]
  · ipureintro; exact fun j => congrFun (View.read_write_univ (v := m.access r) f w) j
  · iapply (owns_intro c m fullShare ((m.access r).write Val f w Finset.univ)); iexact H

/-- A load of just the rectangle owned, the window held with its unit axes dropped. -/
theorem own_load_sq {m : Memref sig c.2.kind cs s e} {r : Rect s} {hr : ∀ a, r.stride a = 1} {s' : Shape} {h : r.shape.Squeezes s'} {hl : m.view.LoadsAt r}
    {q : PosShare TreeShare} {X : s'.Idx → Val e} {k : (r.shape.Idx → Val e) → Prog (TpuEff nD τ sig Val Λ c.2) α} :
    (owns c ((m.slice r hr).squeeze s' h) q X : sProp 𝕄)
      ⊢ iprop((owns c ((m.slice r hr).squeeze s' h) q X -∗ wp frame (wpE defs 𝒱 c bd) Set.univ (k fun j => X ((Shape.reshapeEquiv h.numel_eq).symm j)) Q)
        -∗ wp frame (wpE defs 𝒱 c bd) Set.univ (.op (.load m r.toLoadRect hl) k) Q) := by
  have e : (owns c ((m.slice r hr).squeeze s' h) q X : sProp 𝕄) = owns c (m.slice r hr) q (fun j => X ((Shape.reshapeEquiv h.numel_eq).symm j)) := by
    rw [← owns_squeeze c (m.slice r hr) q s' h]; simp only [Equiv.symm_apply_apply]
  rw [e]
  exact own_load_slice 𝒱 c bd

/-- A store over just the rectangle owned, the window held with its unit axes dropped. -/
theorem own_store_sq {m : Memref sig c.2.kind cs s e} {r : Rect s} {hr : ∀ a, r.stride a = 1} {s' : Shape} {h : r.shape.Squeezes s'} {w : r.shape.Idx → Val e}
    {hx : (m.access r).Stores Finset.univ} {hm : Finset.univ = Finset.univ ∨ ∀ a, r.stride a = 1}
    {k : PUnit → Prog (TpuEff nD τ sig Val Λ c.2) α} :
    (owned c ((m.slice r hr).squeeze s' h) fullShare : sProp 𝕄)
      ⊢ iprop((owns c ((m.slice r hr).squeeze s' h) fullShare (fun i => w (Shape.reshapeEquiv h.numel_eq i)) -∗ wp frame (wpE defs 𝒱 c bd) Set.univ (k ⟨⟩) Q)
        -∗ wp frame (wpE defs 𝒱 c bd) Set.univ (.op (.store m r w Finset.univ hx hm) k) Q) := by
  rw [owns_squeeze]
  refine (owned_squeeze c (m.slice r hr) fullShare s' h).1.trans ?_
  unfold owned
  iintro ⟨%X, H⟩
  iapply (own_store_slice 𝒱 c bd) $$ H

/-- A load of just the rectangle owned, whatever it holds; the program does not look at what it read. -/
theorem owned_load_sq {m : Memref sig c.2.kind cs s e} {r : Rect s} {hr : ∀ a, r.stride a = 1} {s' : Shape} {h : r.shape.Squeezes s'} {hl : m.view.LoadsAt r}
    {k : Prog (TpuEff nD τ sig Val Λ c.2) α} :
    (owned c ((m.slice r hr).squeeze s' h) fullShare : sProp 𝕄)
      ⊢ iprop((owned c ((m.slice r hr).squeeze s' h) fullShare -∗ wp frame (wpE defs 𝒱 c bd) Set.univ k Q)
        -∗ wp frame (wpE defs 𝒱 c bd) Set.univ (.op (.load m r.toLoadRect hl) fun _ => k) Q) := by
  unfold owned
  iintro ⟨%X, H⟩ Hk
  iapply (own_load_sq 𝒱 c bd) $$ H
  iintro H
  iapply Hk
  iexists X; iexact H

/-- A local copy between two windows owned: it delivers both, the destination at the source's contents. -/
theorem own_copy (EC : UEmb Counters 𝕄) [Infinite Name] [EC.LandsIn (upEmb : UEmb _ 𝕄)]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {X Y : s.Idx → Val e}
    (ι : Ix) (N : ℕ) (hN : dst.view.amount sm = N) (hN0 : 0 < N) :
    iprop(owns c src q X ∗ owns c dst fullShare Y ∗ semVal (c, sm) 0)
      ⊢ iprop((Transfers.Flight EC c sm ι N iprop(owns c dst fullShare X ∗ owns c src q X)
              -∗ wp frame (wpE defs 𝒱 c bd) Set.univ (k ⟨⟩) Q)
          -∗ wp frame (wpE defs 𝒱 c bd) Set.univ (.op (.enqueueDma src (.here dst) sm hsrc hdst hsem) k) Q) := by
  iintro ⟨Hs, Hd, Hv⟩ Hk
  ihave H' := (show owns c src q X ⊢ iprop(∃ g, ⌜src.view.read Val g = X⌝ ∗ src.view.loc c ↦[src.view.set]{q} g) from .rfl) $$ Hs
  icases H' with ⟨%fs, %hfs, Hs⟩
  ihave H' := (show owns c dst fullShare Y ⊢ iprop(∃ g, ⌜dst.view.read Val g = Y⌝ ∗ dst.view.loc c ↦[dst.view.set]{fullShare} g) from .rfl) $$ Hd
  icases H' with ⟨%fd, %hfd, Hd⟩
  iapply (Transfers.wp_dmaLocal EC 𝒱 c bd ι N hN hN0 (Finset.Subset.refl _)) $$ [Hs Hd Hv]
  · isplitl [Hs]; · iexact Hs
    isplitl [Hd]; · iexact Hd
    iexact Hv
  iintro Hf
  iapply Hk
  subst hfs
  refine Transfers.Flight_mono EC c ?_
  refine sep_mono ?_ (owns_intro c src q fs)
  refine (owns_intro c dst fullShare _).trans (Entails.of_eq ?_)
  rw [View.read_write_univ]

/-- An addressed copy of a window owned at `X` into a window of the target device owned there: it pays the sender's
    duty with the source's share and the target's duty with the destination at `X`. -/
theorem own_send {D : Type} [DecidableEq D] (E : Emb (Rounds.URounds (GSem nD τ sig) D) 𝕄) (Rd : Rounds.Schedule (GSem nD τ sig) D 𝕄)
    [E.LandsIn (upEmb : UEmb _ 𝕄)] [∀ g r d, BI.Storable (upEmb : UEmb _ 𝕄) (Rd.payload g r d)]
    {c' : Thread nD τ} {src : Memref sig c.2.kind sp s e} {dst : Memref sig c'.2.kind sp' s e} {hsc : dst.view.ref.isScScratch = false} {sS sem : SemLoc sig}
    {hsrc : src.view.WordExact} {hdst : dst.view.WordExact} {hsem : DmaTarget.Typed sp sem (.remote c' dst sS hsc)}
    {k : PUnit → Prog (TpuEff nD τ sig Val Λ c.2) α} {q : PosShare TreeShare} {X : s.Idx → Val e} {r₁ r₂ : ℕ} {d₁ d₂ : D} {κ₁ κ₂ : Name}
    (hd₁ : d₁ ∈ Rd.duties (c, sS) r₁) (hd₂ : d₂ ∈ Rd.duties (c', sem) r₂)
    (ι : Ix) (N : ℕ) (hN : dst.view.amount sem = N)
    (hk₁ : Rd.amount (c, sS) r₁ d₁ = N) (hk₂ : Rd.amount (c', sem) r₂ d₂ = N)
    {O₀ : CellTallies nD τ sig Ix} (O : CellTallies nD τ sig Ix) (hO : O₀ = O + tallyAt (c', sem) ι N) {W : Waits sig Ix}
    (hpay₁ : (owns c src q X : sProp 𝕄) ⊢ Rd.payload (c, sS) r₁ d₁)
    (hpay₂ : (owns c' dst fullShare X : sProp 𝕄) ⊢ Rd.payload (c', sem) r₂ d₂) (hr : τ.routes c c' = true) :
    iprop(Rounds.cellInv E Rd κ₁ (c, sS) ∗ Rounds.cellInv E Rd κ₂ (c', sem) ∗ owns c src q X ∗ owned c' dst fullShare ∗ owes c O₀ W
        ∗ Rounds.dutyTok E (c, sS) r₁ d₁ ∗ Rounds.reached E (c, sS) r₁ ∗ Rounds.dutyTok E (c', sem) r₂ d₂ ∗ Rounds.reached E (c', sem) r₂)
      ⊢ iprop(((cred (tallyAt (c, sS) ι N) ∗ owes c O W) -∗ wp frame (wpE defs 𝒱 c bd) Set.univ (k ⟨⟩) Q)
          -∗ wp frame (wpE defs 𝒱 c bd) Set.univ (.op (.enqueueDma src (.remote c' dst sS hsc) sem hsrc hdst hsem) k) Q) := by
  iintro ⟨Hc1, Hc2, Hs, Hd, HO, Ht1, Hr1, Ht2, Hr2⟩ Hk
  ihave H' := (show owns c src q X ⊢ iprop(∃ g, ⌜src.view.read Val g = X⌝ ∗ src.view.loc c ↦[src.view.set]{q} g) from .rfl) $$ Hs
  icases H' with ⟨%fs, %hfs, Hs⟩
  ihave H' := (show owned c' dst fullShare ⊢ iprop(∃ Y g, ⌜dst.view.read Val g = Y⌝ ∗ dst.view.loc c' ↦[dst.view.set]{fullShare} g) from .rfl) $$ Hd
  icases H' with ⟨%Y, %fd, %hfd, Hd⟩
  subst hfs
  iapply (Rounds.wp_send_pointsTo 𝒱 E Rd c bd (src := src) (dst := dst) (q := q) (fs := fs) (fd := fd) hd₁ hd₂ ι ι N hN hk₁ hk₂ O hO
    ((owns_intro c src q fs).trans hpay₁)
    (((owns_intro c' dst fullShare _).trans (Entails.of_eq (by rw [View.read_write_univ]))).trans hpay₂) hr) $$ [Hc1 Hc2 Hs Hd HO Ht1 Hr1 Ht2 Hr2]
  · isplitl [Hc1]; · iexact Hc1
    isplitl [Hc2]; · iexact Hc2
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iexact Hk

end Step

end Cert.Own
-- ==== Proof.Tile.lean ====
/-
  A buffer cut into rectangles that tile it, and put together again.
-/
module

public import proofs.«01_k».proof.Proof.Own
public import Idealize.SL.ProofMode.BigOp

@[expose] public section

noncomputable section

namespace Cert.Own

open Idealize.ShloMosaic Idealize.ShloMosaic.TcCoe
open Idealize.SL Idealize.SL.RA
open Idealize.SL.BI (sProp bigSep bigSep_mono)
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Rectangles that tile a shape: every index lies in the one `at_` names and in no other. -/
structure Tiles' {sh : Shape} {T : Type} (r : T → Rect sh) where
  unit : ∀ t a, (r t).stride a = 1
  at_ : sh.Idx → T
  mem : ∀ t x, x ∈ (r t).set ↔ at_ x = t

variable {sh : Shape} {T : Type} [Fintype T] [DecidableEq T] {r : T → Rect sh} (H : Tiles' r)
include H

theorem Tiles'.disj (t t' : T) (h : t ≠ t') : Disjoint (r t).set (r t').set :=
  Finset.disjoint_left.mpr fun x hx hx' => h (((H.mem t x).mp hx).symm.trans ((H.mem t' x).mp hx'))

theorem Tiles'.cover : (Finset.univ : Finset T).biUnion (fun t => (r t).set) = Finset.univ :=
  Finset.eq_univ_iff_forall.mpr fun x => Finset.mem_biUnion.mpr ⟨H.at_ x, Finset.mem_univ _, (H.mem _ x).mpr rfl⟩

variable (c : Thread nD τ) {sp : Space} {e : EltTy} (m : Memref sig c.2.kind sp sh e) (q : PosShare TreeShare)

/-- The window as its tiles. -/
theorem owns_tiles (X : sh.Idx → Val e) :
    (owns c m q X : sProp 𝕄) ⊢ bigSep Finset.univ fun t => owns c (m.slice (r t) (H.unit t)) q (fun j => X ((r t).emb j)) :=
  owns_rects c m q r H.unit H.disj H.cover X

theorem owned_tiles : (owned c m q : sProp 𝕄) ⊢ bigSep Finset.univ fun t => owned c (m.slice (r t) (H.unit t)) q := by
  unfold owned
  iintro ⟨%X, HX⟩
  ihave H' := (owns_tiles H c m q X) $$ HX
  iapply (Entails.trans (bigSep_mono fun t _ => owned_intro c (m.slice (r t) (H.unit t)) q (fun j => X ((r t).emb j))) .rfl)
  iexact H'

/-- Tiles owned at the parts of `X` are the window at `X`. -/
theorem owns_of_tiles [∀ e, Nonempty (Val e)] (X : sh.Idx → Val e) :
    bigSep Finset.univ (fun t => owns c (m.slice (r t) (H.unit t)) q (fun j => X ((r t).emb j))) ⊢ (owns c m q X : sProp 𝕄) :=
  owns_of_rects c m q r H.unit H.disj H.cover X

/-- Tiles owned at some contents are the window at some contents. -/
theorem owned_of_tiles [∀ e, Nonempty (Val e)] :
    bigSep Finset.univ (fun t => owned c (m.slice (r t) (H.unit t)) q) ⊢ (owned c m q : sProp 𝕄) := by
  have h0 : bigSep Finset.univ (fun t => owned c (m.slice (r t) (H.unit t)) q)
      ⊢ (iprop(∃ Y : (t : T) → (r t).shape.Idx → Val e, bigSep Finset.univ fun t => owns c (m.slice (r t) (H.unit t)) q (Y t)) : sProp 𝕄) := by
    unfold owned
    haveI : ∀ t : T, Nonempty ((r t).shape.Idx → Val e) := fun t => inferInstance
    exact BI.bigSep_exists_pi Finset.univ _
  refine h0.trans ?_
  iintro ⟨%Y, HY⟩
  unfold owned
  have hx (x : sh.Idx) : ∃ j, (r (H.at_ x)).emb j = x := by
    have := (H.mem (H.at_ x) x).mpr rfl
    rw [← Rect.map_emb_univ, Finset.mem_map] at this
    obtain ⟨j, -, h⟩ := this
    exact ⟨j, h⟩
  have key (t₀ t : T) (ht : t₀ = t) (j₀ : (r t₀).shape.Idx) (j : (r t).shape.Idx) (hj : (r t₀).emb j₀ = (r t).emb j) : Y t₀ j₀ = Y t j := by
    subst ht; rw [(r t₀).emb.injective hj]
  have hY : ∃ X : sh.Idx → Val e, ∀ t j, X ((r t).emb j) = Y t j := by
    refine ⟨fun x => Y (H.at_ x) (hx x).choose, fun t j => ?_⟩
    have ht : H.at_ ((r t).emb j) = t := (H.mem t _).mp (by rw [← Rect.map_emb_univ]; exact Finset.mem_map_of_mem _ (Finset.mem_univ j))
    exact key _ _ ht _ _ (hx ((r t).emb j)).choose_spec
  obtain ⟨X, hX⟩ := hY
  iexists X
  iapply (owns_of_tiles H c m q X)
  rw [show (fun t => (owns c (m.slice (r t) (H.unit t)) q (fun j => X ((r t).emb j)) : sProp 𝕄)) = fun t => owns c (m.slice (r t) (H.unit t)) q (Y t) from
    funext fun t => congrArg _ (funext fun j => hX t j)]
  iexact HY

end Cert.Own
-- ==== Proof.KI.Prog.lean ====
/-
  The kernel's body regrouped: the device's buffers cut into the windows its copies and arithmetic touch, a few
  short runs of operations over such windows (fetch a block of `W` and multiply, add a received part, cast a sum,
  send on one of the rings, stage a chunk for the result), and the whole body as a sequence of those runs.
  `body_eq` states that the sequence is the printed body.
-/
module

public import proofs.«01_k».proof.Proof.Gen.KernelIdeal.Skeleton
public import proofs.«01_k».proof.Proof.Gen.KernelIdeal.Points

@[expose] public section

noncomputable section

namespace Cert.KernelIdeal.P

open Cert.KernelIdeal Cert.KernelIdeal.Gen
open Idealize.ShloMosaic Idealize.ShloMosaic.TcCoe
open Idealize.SL Idealize.SL.Sem

variable {F : FTy → Type} [FloatOps F]

/-! ## The buffers and their windows -/

abbrev A0 : Memref sig .tc .hbm S2048x8192 .f32 := Memref.whole main_arg0
abbrev A1 : Memref sig .tc .hbm S2048x8192 .f32 := Memref.whole main_arg1
abbrev A2 : Memref sig .tc .hbm S2048x2048 .f32 := Memref.whole main_v1
abbrev A3 : Memref sig .tc .vmem S256x8192 .f32 := Memref.whole cc0_scratch0
abbrev A4 : Memref sig .tc .vmem S256x8192 .bf16 := Memref.whole cc0_scratch1
abbrev A5 : Memref sig .tc .vmem S2x1024x1024 .f32 := Memref.whole cc0_scratch2
abbrev A6 : Memref sig .tc .vmem S256x2048 .f32 := Memref.whole cc0_scratch3
abbrev A7 : Memref sig .tc .vmem S2x4x256x1024 .bf16 := Memref.whole cc0_scratch4
abbrev A8 : Memref sig .tc .vmem S8x256x2048 .bf16 := Memref.whole cc0_scratch5
abbrev A9 : Memref sig .tc .vmem S2x256x1024 .f32 := Memref.whole cc0_scratch6

theorem inbW (i : Fin 2) : ∀ a, (![i.val, 0, 0] : Fin 3 → Nat) a + S1x1024x1024.size a ≤ S2x1024x1024.size a := by
  revert i; decide
theorem inbB (k : Fin 8) : ∀ a, (![0, 1024 * k.val] : Fin 2 → Nat) a + S256x1024.size a ≤ S256x8192.size a := by
  revert k; decide
theorem inbC (h : Fin 2) : ∀ a, (![0, 1024 * h.val] : Fin 2 → Nat) a + S256x1024.size a ≤ S256x2048.size a := by
  revert h; decide
theorem inbY (h : Fin 2) (s : Fin 4) : ∀ a, (![h.val, s.val, 0, 0] : Fin 4 → Nat) a + S1x1x256x1024.size a ≤ S2x4x256x1024.size a := by
  revert h s; decide
theorem inbS (i : Fin 2) : ∀ a, (![i.val, 0, 0] : Fin 3 → Nat) a + S1x256x1024.size a ≤ S2x256x1024.size a := by
  revert i; decide
theorem inb1 (i : Fin 16) : ∀ a, (![1024 * (i.val / 8), 1024 * (i.val % 8)] : Fin 2 → Nat) a + S1024x1024.size a ≤ S2048x8192.size a := by
  revert i; decide
theorem inbG (j : Fin 8) (h : Fin 2) : ∀ a, (![j.val, 0, 1024 * h.val] : Fin 3 → Nat) a + S1x256x1024.size a ≤ S8x256x2048.size a := by
  revert j h; decide
theorem inbO (j : Fin 8) (h : Fin 2) : ∀ a, (![256 * j.val, 1024 * h.val] : Fin 2 → Nat) a + S256x1024.size a ≤ S2048x2048.size a := by
  revert j h; decide
theorem inb0 (j : Fin 8) : ∀ a, (![256 * j.val, 0] : Fin 2 → Nat) a + S256x8192.size a ≤ S2048x8192.size a := by
  revert j; decide

/-- The slot of the two-slot buffer that block `i` of `W` is fetched into. -/
def sl (i : Fin 16) : Fin 2 := ⟨i.val % 2, Nat.mod_lt _ (by decide)⟩
/-- The half of the columns of the result that block `i` of `W` belongs to. -/
def hf (i : Fin 16) : Fin 2 := ⟨i.val / 8, by omega⟩
/-- The part of the contraction that block `i` of `W` belongs to. -/
def kk (i : Fin 16) : Fin 8 := ⟨i.val % 8, Nat.mod_lt _ (by decide)⟩

abbrev rW (i : Fin 2) : Rect S2x1024x1024 := Rect.unit (s := S2x1024x1024) ![i.val, 0, 0] S1x1024x1024.size (inbW i)
abbrev rB (k : Fin 8) : Rect S256x8192 := Rect.unit (s := S256x8192) ![0, 1024 * k.val] S256x1024.size (inbB k)
abbrev rC (h : Fin 2) : Rect S256x2048 := Rect.unit (s := S256x2048) ![0, 1024 * h.val] S256x1024.size (inbC h)
abbrev rY (h : Fin 2) (s : Fin 4) : Rect S2x4x256x1024 := Rect.unit (s := S2x4x256x1024) ![h.val, s.val, 0, 0] S1x1x256x1024.size (inbY h s)
abbrev rS (i : Fin 2) : Rect S2x256x1024 := Rect.unit (s := S2x256x1024) ![i.val, 0, 0] S1x256x1024.size (inbS i)
abbrev r1 (i : Fin 16) : Rect S2048x8192 := Rect.unit (s := S2048x8192) ![1024 * (i.val / 8), 1024 * (i.val % 8)] S1024x1024.size (inb1 i)

section At
variable (o3 : Fin 3 → Nat) (h3 : ∀ a, o3 a + S1x256x1024.size a ≤ S8x256x2048.size a)
  (o2 : Fin 2 → Nat) (h2 : ∀ a, o2 a + S256x1024.size a ≤ S2048x2048.size a)
  (o0 : Fin 2 → Nat) (h0 : ∀ a, o0 a + S256x8192.size a ≤ S2048x8192.size a)
abbrev rGo : Rect S8x256x2048 := Rect.unit (s := S8x256x2048) o3 S1x256x1024.size h3
abbrev rOo : Rect S2048x2048 := Rect.unit (s := S2048x2048) o2 S256x1024.size h2
abbrev r0o : Rect S2048x8192 := Rect.unit (s := S2048x8192) o0 S256x8192.size h0
abbrev mGo : Memref sig .tc .vmem S256x1024 .bf16 := (A8.slice (rGo o3 h3) (fun _ => rfl)).squeeze S256x1024 squeezes_S1x256x1024_S256x1024
abbrev mOo : Memref sig .tc .hbm S256x1024 .f32 := A2.slice (rOo o2 h2) (fun _ => rfl)
abbrev m0o : Memref sig .tc .hbm S256x8192 .f32 := A0.slice (r0o o0 h0) (fun _ => rfl)
end At

abbrev m1 (i : Fin 16) : Memref sig .tc .hbm S1024x1024 .f32 := A1.slice (r1 i) (fun _ => rfl)
abbrev mW (i : Fin 2) : Memref sig .tc .vmem S1024x1024 .f32 := (A5.slice (rW i) (fun _ => rfl)).squeeze S1024x1024 squeezes_S1x1024x1024_S1024x1024
abbrev mC (h : Fin 2) : Memref sig .tc .vmem S256x1024 .f32 := A6.slice (rC h) (fun _ => rfl)
abbrev mY (h : Fin 2) (s : Fin 4) : Memref sig .tc .vmem S256x1024 .bf16 := (A7.slice (rY h s) (fun _ => rfl)).squeeze S256x1024 squeezes_S1x1x256x1024_S256x1024
abbrev mS (i : Fin 2) : Memref sig .tc .vmem S256x1024 .f32 := (A9.slice (rS i) (fun _ => rfl)).squeeze S256x1024 squeezes_S1x256x1024_S256x1024

theorem packedY (h : Fin 2) : (A7.access (rY h 0)).Stores Finset.univ := by
  match h with
  | 0 => exact View.stores_vmem h_S1x1x256x1024 ((Memref.isWhole_whole _).storeExact_slice rfl _ packedbf16_S2x4x256x1024_S1x1x256x1024_0_0_0_0) (fun _ => rfl)
  | 1 => exact View.stores_vmem h_S1x1x256x1024 ((Memref.isWhole_whole _).storeExact_slice rfl _ packedbf16_S2x4x256x1024_S1x1x256x1024_1_0_0_0) (fun _ => rfl)

theorem wordsY (h : Fin 2) (s : Fin 4) : (mY h s).view.WordExact := by
  suffices H : (A7.slice (rY h s) (fun _ => rfl)).view.WordExact from H.reshape _ _
  match h, s with
  | 0, 0 => exact (Memref.isWhole_whole _).wordExact_slice rfl _ wordsbf16_S2x4x256x1024_S1x1x256x1024_0_0_0_0
  | 0, 1 => exact (Memref.isWhole_whole _).wordExact_slice rfl _ wordsbf16_S2x4x256x1024_S1x1x256x1024_0_1_0_0
  | 0, 2 => exact (Memref.isWhole_whole _).wordExact_slice rfl _ wordsbf16_S2x4x256x1024_S1x1x256x1024_0_2_0_0
  | 0, 3 => exact (Memref.isWhole_whole _).wordExact_slice rfl _ wordsbf16_S2x4x256x1024_S1x1x256x1024_0_3_0_0
  | 1, 0 => exact (Memref.isWhole_whole _).wordExact_slice rfl _ wordsbf16_S2x4x256x1024_S1x1x256x1024_1_0_0_0
  | 1, 1 => exact (Memref.isWhole_whole _).wordExact_slice rfl _ wordsbf16_S2x4x256x1024_S1x1x256x1024_1_1_0_0
  | 1, 2 => exact (Memref.isWhole_whole _).wordExact_slice rfl _ wordsbf16_S2x4x256x1024_S1x1x256x1024_1_2_0_0
  | 1, 3 => exact (Memref.isWhole_whole _).wordExact_slice rfl _ wordsbf16_S2x4x256x1024_S1x1x256x1024_1_3_0_0

/-- A transfer's window of the gathered chunks is whole words. -/
theorem wordsG {o : Fin 3 → Nat} {ho : ∀ a, o a + S1x256x1024.size a ≤ S8x256x2048.size a}
    (hw : (rGo o ho).WholeWords (EltTy.packing .bf16)) : (mGo o ho).view.WordExact :=
  ((Memref.isWhole_whole cc0_scratch5).wordExact_slice rfl _ hw).reshape _ _

/-! ## The semaphores -/

abbrev smD : DmaSem sig := (⟨0, by decide⟩ : Fin 35)
abbrev smW (i : Fin 2) : DmaSem sig := (⟨1 + i.val, by omega⟩ : Fin 35)
abbrev smYs (h : Fin 2) : DmaSem sig := (⟨3 + h.val, by omega⟩ : Fin 35)
abbrev smYr (h : Fin 2) (s : Fin 3) : DmaSem sig := (⟨5 + 3 * h.val + s.val, by omega⟩ : Fin 35)
abbrev smCs (h : Fin 2) : DmaSem sig := (⟨11 + h.val, by omega⟩ : Fin 35)
abbrev smKs (h : Fin 2) : DmaSem sig := (⟨13 + h.val, by omega⟩ : Fin 35)
abbrev smCr (h : Fin 2) (s : Fin 4) : DmaSem sig := (⟨15 + 4 * h.val + s.val, by omega⟩ : Fin 35)
abbrev smKr (h : Fin 2) (s : Fin 3) : DmaSem sig := (⟨23 + 4 * h.val + s.val, by omega⟩ : Fin 35)
abbrev smS (i : Fin 2) : DmaSem sig := (⟨31 + i.val, by omega⟩ : Fin 35)
abbrev smO (h : Fin 2) : DmaSem sig := (⟨33 + h.val, by omega⟩ : Fin 35)
abbrev barS : Sem sig := sig.barrier 0 rfl

/-! ## The runs of operations -/

variable (F) in
abbrev Pg : Type 1 := Prog (TpuEff nD τ sig (Elt F) Λ₀ .tc) PUnit

/-- Start fetching block `i` of `W`. -/
def wFetch (i : Fin 16) (k : Pg F) : Pg F :=
  .op (.enqueueDma (m1 i) (.here (mW (sl i))) (.dma (smW (sl i))) (View.wordExact_bits rfl) ((View.wordExact_bits rfl).reshape _ _) ⟨Or.inl rfl, trivial⟩) fun _ => k

/-- Wait for block `i` of `W`. -/
def wWait (i : Fin 16) (k : Pg F) : Pg F :=
  .op (.waitDma2 (smW (sl i)) (m1 i) (mW (sl i)) (View.wordExact_bits rfl) ((View.wordExact_bits rfl).reshape _ _)) fun _ => k

/-- Multiply by the block in hand and add into the running sum. -/
def dotCore (i : Fin 16) (k : Pg F) : Pg F :=
  .op (.load A4 (rB (kk i)).toLoadRect (View.loadsAt_vmem h_S256x1024)) fun v =>
  .op (.load A5 (rW (sl i)).toLoadRect (View.loadsAt_vmem h_S1x1024x1024)) fun w =>
  .op (.load A6 (rC (hf i)).toLoadRect (View.loadsAt_vmem h_S256x1024)) fun a =>
  .op (.load A6 (rC (hf i)).toLoadRect (View.loadsAt_vmem h_S256x1024)) fun _ =>
  .op (.store A6 (rC (hf i)) (k0_pay5 v w a) Finset.univ (View.stores_vmem_bits_univ h_S256x1024 rfl) (.inl rfl)) fun _ => k

/-- Wait for block `i`, start fetching block `i'`, multiply by block `i`. -/
def dot (i i' : Fin 16) (k : Pg F) : Pg F := wWait i (wFetch i' (dotCore i k))

/-- Add the part in slot `s` into the running sum of half `h`. -/
def accY (h : Fin 2) (s : Fin 4) (k : Pg F) : Pg F :=
  .op (.load A6 (rC h).toLoadRect (View.loadsAt_vmem h_S256x1024)) fun a =>
  .op (.load A7 (rY h s).toLoadRect (View.loadsAt_vmem h_S1x1x256x1024)) fun y =>
  .op (.load A6 (rC h).toLoadRect (View.loadsAt_vmem h_S256x1024)) fun _ =>
  .op (.store A6 (rC h) (k0_pay21 a y) Finset.univ (View.stores_vmem_bits_univ h_S256x1024 rfl) (.inl rfl)) fun _ => k

/-- Cast the running sum of half `h` into slot 0, the part this device sends first. -/
def castY (h : Fin 2) (k : Pg F) : Pg F :=
  .op (.load A6 (rC h).toLoadRect (View.loadsAt_vmem h_S256x1024)) fun a =>
  .op (.load A7 (rY h 0).toLoadRect (View.loadsAt_vmem h_S1x1x256x1024)) fun _ =>
  .op (.store A7 (rY h 0) (k0_pay13 a) Finset.univ (packedY h) (.inl rfl)) fun _ => k

section At
variable (o : Fin 3 → Nat) (ho : ∀ a, o a + S1x256x1024.size a ≤ S8x256x2048.size a)

/-- Cast the finished sum of half `h` into the chunk at `o` of the gathered chunks. -/
def castG (h : Fin 2) (hp : (A8.access (rGo o ho)).Stores Finset.univ) (k : Pg F) : Pg F :=
  .op (.load A6 (rC h).toLoadRect (View.loadsAt_vmem h_S256x1024)) fun a =>
  .op (.load A8 (rGo o ho).toLoadRect (View.loadsAt_vmem h_S1x256x1024)) fun _ =>
  .op (.store A8 (rGo o ho) (k0_pay28 a) Finset.univ hp (.inl rfl)) fun _ => k

/-- Stage the chunk at `o` in slot `i`, at the result's type. -/
def stage (i : Fin 2) (k : Pg F) : Pg F :=
  .op (.load A8 (rGo o ho).toLoadRect (View.loadsAt_vmem h_S1x256x1024)) fun g =>
  .op (.load A9 (rS i).toLoadRect (View.loadsAt_vmem h_S1x256x1024)) fun _ =>
  .op (.store A9 (rS i) (k0_pay30 g) Finset.univ (View.stores_vmem_bits_univ h_S1x256x1024 rfl) (.inl rfl)) fun _ => k

/-- Send the chunk at `o` to device `e`'s chunk at the same place. -/
def gSend (hw : (mGo o ho).view.WordExact) (e : Dev nD) (sS sR : DmaSem sig) (k : Pg F) : Pg F :=
  .op (.enqueueDma (mGo o ho) (.remote (Dev.tc e) (mGo o ho) (.dma sS)) (.dma sR) hw hw ⟨⟨rfl, Or.inl rfl⟩, trivial⟩) fun _ => k

/-- Wait for the chunk at `o` to have left, then for the one arriving. -/
def gWait (hw : (mGo o ho).view.WordExact) (sS sR : DmaSem sig) (k : Pg F) : Pg F :=
  .op (.waitDma2 sS (mGo o ho) (mGo o ho) hw hw) fun _ =>
  .op (.waitDma2 sR (mGo o ho) (mGo o ho) hw hw) fun _ => k
end At

section At
variable (o : Fin 2 → Nat) (ho : ∀ a, o a + S256x1024.size a ≤ S2048x2048.size a)

/-- Start copying slot `i` to the result's block at `o`. -/
def sPut (i : Fin 2) (k : Pg F) : Pg F :=
  .op (.enqueueDma (mS i) (.here (mOo o ho)) (.dma (smS i)) ((View.wordExact_bits rfl).reshape _ _) (View.wordExact_bits rfl) ⟨Or.inl rfl, trivial⟩) fun _ => k

/-- Wait for that copy. -/
def sWait (i : Fin 2) (k : Pg F) : Pg F :=
  .op (.waitDma2 (smS i) (mS i) (mOo o ho) ((View.wordExact_bits rfl).reshape _ _) (View.wordExact_bits rfl)) fun _ => k

/-- Start copying this device's own sum of half `h` to the result's block at `o`. -/
def oPut (h : Fin 2) (k : Pg F) : Pg F :=
  .op (.enqueueDma (mC h) (.here (mOo o ho)) (.dma (smO h)) (View.wordExact_bits rfl) (View.wordExact_bits rfl) ⟨Or.inl rfl, trivial⟩) fun _ => k

/-- Wait for that copy. -/
def oWait (h : Fin 2) (k : Pg F) : Pg F :=
  .op (.waitDma2 (smO h) (mC h) (mOo o ho) (View.wordExact_bits rfl) (View.wordExact_bits rfl)) fun _ => k
end At

/-- Send the part in slot `s` of half `h` to device `e`'s next slot. -/
def ySend (h : Fin 2) (s : Fin 3) (e : Dev nD) (k : Pg F) : Pg F :=
  .op (.enqueueDma (mY h s.castSucc) (.remote (Dev.tc e) (mY h s.succ) (.dma (smYs h))) (.dma (smYr h s)) (wordsY h s.castSucc) (wordsY h s.succ) ⟨⟨rfl, Or.inl rfl⟩, trivial⟩) fun _ => k

/-- Wait for that part to have left, then for the one arriving. -/
def yWait (h : Fin 2) (s : Fin 3) (k : Pg F) : Pg F :=
  .op (.waitDma2 (smYs h) (mY h s.succ) (mY h s.castSucc) (wordsY h s.succ) (wordsY h s.castSucc)) fun _ =>
  .op (.waitDma2 (smYr h s) (mY h s.castSucc) (mY h s.succ) (wordsY h s.castSucc) (wordsY h s.succ)) fun _ => k

/-- Start fetching this device's rows of `dy`. -/
def dFetch (o : Fin 2 → Nat) (ho : ∀ a, o a + S256x8192.size a ≤ S2048x8192.size a) (k : Pg F) : Pg F :=
  .op (.enqueueDma (m0o o ho) (.here A3) (.dma smD) (View.wordExact_bits rfl) (Memref.isWhole_whole _).wordExact ⟨Or.inl rfl, trivial⟩) fun _ => k

/-- Wait for those rows. -/
def dWait (o : Fin 2 → Nat) (ho : ∀ a, o a + S256x8192.size a ≤ S2048x8192.size a) (k : Pg F) : Pg F :=
  .op (.waitDma2 smD (m0o o ho) A3 (View.wordExact_bits rfl) (Memref.isWhole_whole _).wordExact) fun _ => k

/-- Cast the rows of `dy`, and clear the running sums. -/
def prep (k : Pg F) : Pg F :=
  .op (.load A3 (Rect.unit (s := S256x8192) ![0, 0] S256x8192.size inb_S256x8192_S256x8192_0_0).toLoadRect (View.loadsAt_vmem h_S256x8192)) fun v =>
  .op (.load A4 (Rect.unit (s := S256x8192) ![0, 0] S256x8192.size inb_S256x8192_S256x8192_0_0).toLoadRect (View.loadsAt_vmem h_S256x8192)) fun _ =>
  .op (.store A4 (Rect.unit (s := S256x8192) ![0, 0] S256x8192.size inb_S256x8192_S256x8192_0_0) (k0_pay1 v) Finset.univ (View.stores_vmem h_S256x8192 ((Memref.isWhole_whole _).storeExact_slice rfl _ packedbf16_S256x8192_S256x8192_0_0) (fun _ => rfl)) (.inl rfl)) fun _ =>
  .op (.load A6 (Rect.unit (s := S256x2048) ![0, 0] S256x2048.size inb_S256x2048_S256x2048_0_0).toLoadRect (View.loadsAt_vmem h_S256x2048)) fun _ =>
  .op (.store A6 (Rect.unit (s := S256x2048) ![0, 0] S256x2048.size inb_S256x2048_S256x2048_0_0) (k0_pay2 (F := F)) Finset.univ (View.stores_vmem_bits_univ h_S256x2048 rfl) (.inl rfl)) fun _ => k

/-- Signal device `e`'s barrier. -/
def bSignal (e : Dev nD) (k : Pg F) : Pg F := .op (.semSignal (e, .tc) barS (1#32).toInt) fun _ => k

/-- Wait for the four signals. -/
def bWait (k : Pg F) : Pg F := .op (.semWait barS (4#32).toInt) fun _ => k

/-! ## The body -/

section Body
variable (d : Dev nD)

/-- Send to the right along `y`, to the next and to the previous device of the ring. -/
abbrev dv (n : ℕ) (h : n < nD) : Dev nD := ⟨n, h⟩

/-- One clockwise send of half 0 or 1 at step `s`, and its waits; then the counter-clockwise ones. -/
abbrev cSend0 (s : Fin 4) (e : Dev nD) (k : Pg F) : Pg F := gSend (k0_off4 d (BitVec.ofNat 32 s.val)) (k0_off4_inb d s) (wordsG (k0_off4_wordsbf16 d s)) e (smCs 0) (smCr 0 s) k
abbrev cWait0 (s : Fin 4) (k : Pg F) : Pg F := gWait (k0_off4 d (BitVec.ofNat 32 s.val)) (k0_off4_inb d s) (wordsG (k0_off4_wordsbf16 d s)) (smCs 0) (smCr 0 s) k
abbrev kSend0 (s : Fin 3) (e : Dev nD) (k : Pg F) : Pg F := gSend (k0_off5 d (BitVec.ofNat 32 s.val)) (k0_off5_inb d s) (wordsG (k0_off5_wordsbf16 d s)) e (smKs 0) (smKr 0 s) k
abbrev kWait0 (s : Fin 3) (k : Pg F) : Pg F := gWait (k0_off5 d (BitVec.ofNat 32 s.val)) (k0_off5_inb d s) (wordsG (k0_off5_wordsbf16 d s)) (smKs 0) (smKr 0 s) k
abbrev cSend1 (s : Fin 4) (e : Dev nD) (k : Pg F) : Pg F := gSend (k0_off12 d (BitVec.ofNat 32 s.val)) (k0_off12_inb d s) (wordsG (k0_off12_wordsbf16 d s)) e (smCs 1) (smCr 1 s) k
abbrev cWait1 (s : Fin 4) (k : Pg F) : Pg F := gWait (k0_off12 d (BitVec.ofNat 32 s.val)) (k0_off12_inb d s) (wordsG (k0_off12_wordsbf16 d s)) (smCs 1) (smCr 1 s) k
abbrev kSend1 (s : Fin 3) (e : Dev nD) (k : Pg F) : Pg F := gSend (k0_off13 d (BitVec.ofNat 32 s.val)) (k0_off13_inb d s) (wordsG (k0_off13_wordsbf16 d s)) e (smKs 1) (smKr 1 s) k
abbrev kWait1 (s : Fin 3) (k : Pg F) : Pg F := gWait (k0_off13 d (BitVec.ofNat 32 s.val)) (k0_off13_inb d s) (wordsG (k0_off13_wordsbf16 d s)) (smKs 1) (smKr 1 s) k

/-- The chunk that came clockwise at step `s` (so `s + 1` places back) staged and put; counter-clockwise likewise. -/
abbrev cPut0 (i : Fin 2) (s : Fin 4) (k : Pg F) : Pg F :=
  stage (k0_off6 d (BitVec.ofNat 32 (1 + s.val))) (k0_off6_inb d s) i (sPut (k0_off7 d (BitVec.ofNat 32 (1 + s.val))) (k0_off7_inb d s) i k)
abbrev kPut0 (i : Fin 2) (s : Fin 3) (k : Pg F) : Pg F :=
  stage (k0_off8 d (BitVec.ofNat 32 (1 + s.val))) (k0_off8_inb d s) i (sPut (k0_off9 d (BitVec.ofNat 32 (1 + s.val))) (k0_off9_inb d s) i k)
abbrev cPut1 (i : Fin 2) (s : Fin 4) (k : Pg F) : Pg F :=
  stage (k0_off14 d (BitVec.ofNat 32 (1 + s.val))) (k0_off14_inb d s) i (sPut (k0_off15 d (BitVec.ofNat 32 (1 + s.val))) (k0_off15_inb d s) i k)
abbrev kPut1 (i : Fin 2) (s : Fin 3) (k : Pg F) : Pg F :=
  stage (k0_off16 d (BitVec.ofNat 32 (1 + s.val))) (k0_off16_inb d s) i (sPut (k0_off17 d (BitVec.ofNat 32 (1 + s.val))) (k0_off17_inb d s) i k)
abbrev cPutWait0 (i : Fin 2) (s : Fin 4) (k : Pg F) : Pg F := sWait (k0_off7 d (BitVec.ofNat 32 (1 + s.val))) (k0_off7_inb d s) i k
abbrev kPutWait0 (i : Fin 2) (s : Fin 3) (k : Pg F) : Pg F := sWait (k0_off9 d (BitVec.ofNat 32 (1 + s.val))) (k0_off9_inb d s) i k
abbrev cPutWait1 (i : Fin 2) (s : Fin 4) (k : Pg F) : Pg F := sWait (k0_off15 d (BitVec.ofNat 32 (1 + s.val))) (k0_off15_inb d s) i k
abbrev kPutWait1 (i : Fin 2) (s : Fin 3) (k : Pg F) : Pg F := sWait (k0_off17 d (BitVec.ofNat 32 (1 + s.val))) (k0_off17_inb d s) i k

/-- The fetches, the barrier, the casts. -/
def seg1 (k : Pg F) : Pg F :=
  dFetch (k0_off1 d) (k0_off1_inb d) <| wFetch 0 <|
  bSignal (dv (k0_dev1 d) (k0_dev1_lt d)) <| bSignal (dv (k0_dev2 d) (k0_dev2_lt d)) <|
  bSignal (dv (k0_dev3 d) (k0_dev3_lt d)) <| bSignal (dv (k0_dev4 d) (k0_dev4_lt d)) <|
  bWait <| dWait (k0_off1 d) (k0_off1_inb d) <| prep k

/-- The first half's product. -/
def seg2 (k : Pg F) : Pg F :=
  dot 0 1 <| dot 1 2 <| dot 2 3 <| dot 3 4 <| dot 4 5 <| dot 5 6 <| dot 6 7 <| dot 7 8 <| castY 0 k

/-- The second half's product, the first half's parts going round `y` meanwhile. -/
def seg3 (k : Pg F) : Pg F :=
  ySend 0 0 (dv (k0_dev5 d) (k0_dev5_lt d)) <| dot 8 9 <| dot 9 10 <| dot 10 11 <| yWait 0 0 <|
  ySend 0 1 (dv (k0_dev6 d) (k0_dev6_lt d)) <| dot 11 12 <| dot 12 13 <| dot 13 14 <| accY 0 1 <| yWait 0 1 <|
  ySend 0 2 (dv (k0_dev7 d) (k0_dev7_lt d)) <| dot 14 15 <| wWait 15 <| dotCore 15 <| accY 0 2 <| yWait 0 2 <|
  accY 0 3 <| castG (k0_off2 d) (k0_off2_inb d) 0 (View.stores_vmem h_S1x256x1024 ((Memref.isWhole_whole _).storeExact_slice rfl _ (k0_off2_packedbf16 d)) (fun _ => rfl)) <|
  oPut (k0_off3 d) (k0_off3_inb d) 0 <| castY 1 k

/-- The first half's chunks going round the ring, the second half's parts going round `y`. -/
def seg4 (k : Pg F) : Pg F :=
  cSend0 d 0 (dv (k0_dev8 d) (k0_dev8_lt d)) <| kSend0 d 0 (dv (k0_dev9 d) (k0_dev9_lt d)) <| ySend 1 0 (dv (k0_dev10 d) (k0_dev10_lt d)) <|
  cWait0 d 0 <| kWait0 d 0 <| yWait 1 0 <|
  cSend0 d 1 (dv (k0_dev11 d) (k0_dev11_lt d)) <| kSend0 d 1 (dv (k0_dev12 d) (k0_dev12_lt d)) <| ySend 1 1 (dv (k0_dev13 d) (k0_dev13_lt d)) <|
  cPut0 d 0 0 <| kPut0 d 1 0 <| accY 1 1 <|
  cWait0 d 1 <| kWait0 d 1 <| yWait 1 1 <|
  cSend0 d 2 (dv (k0_dev14 d) (k0_dev14_lt d)) <| kSend0 d 2 (dv (k0_dev15 d) (k0_dev15_lt d)) <| ySend 1 2 (dv (k0_dev16 d) (k0_dev16_lt d)) <|
  cPutWait0 d 0 0 <| cPut0 d 0 1 <| kPutWait0 d 1 0 <| kPut0 d 1 1 <| accY 1 2 <|
  cWait0 d 2 <| kWait0 d 2 <| yWait 1 2 <|
  accY 1 3 <| castG (k0_off10 d) (k0_off10_inb d) 1 (View.stores_vmem h_S1x256x1024 ((Memref.isWhole_whole _).storeExact_slice rfl _ (k0_off10_packedbf16 d)) (fun _ => rfl)) <|
  oPut (k0_off11 d) (k0_off11_inb d) 1 k

/-- The second half's chunks going round the ring, the result's blocks put. -/
def seg5 (k : Pg F) : Pg F :=
  cSend1 d 0 (dv (k0_dev17 d) (k0_dev17_lt d)) <| kSend1 d 0 (dv (k0_dev18 d) (k0_dev18_lt d)) <| cSend0 d 3 (dv (k0_dev19 d) (k0_dev19_lt d)) <|
  cPutWait0 d 0 1 <| cPut0 d 0 2 <| kPutWait0 d 1 1 <| kPut0 d 1 2 <|
  cWait1 d 0 <| kWait1 d 0 <| cWait0 d 3 <|
  cSend1 d 1 (dv (k0_dev20 d) (k0_dev20_lt d)) <| kSend1 d 1 (dv (k0_dev21 d) (k0_dev21_lt d)) <|
  cPutWait0 d 0 2 <| cPut0 d 0 3 <| kPutWait0 d 1 2 <| cPut1 d 1 0 <| cPutWait0 d 0 3 <| kPut1 d 0 0 <|
  cWait1 d 1 <| kWait1 d 1 <|
  cSend1 d 2 (dv (k0_dev22 d) (k0_dev22_lt d)) <| kSend1 d 2 (dv (k0_dev23 d) (k0_dev23_lt d)) <|
  cPutWait1 d 1 0 <| cPut1 d 1 1 <| kPutWait1 d 0 0 <| kPut1 d 0 1 <|
  cWait1 d 2 <| kWait1 d 2 <|
  cSend1 d 3 (dv (k0_dev24 d) (k0_dev24_lt d)) <|
  cPutWait1 d 1 1 <| cPut1 d 1 2 <| kPutWait1 d 0 1 <| kPut1 d 0 2 <|
  cWait1 d 3 <|
  cPutWait1 d 1 2 <| cPut1 d 1 3 <|
  oWait (k0_off3 d) (k0_off3_inb d) 0 <| oWait (k0_off11 d) (k0_off11_inb d) 1 <|
  kPutWait1 d 0 2 <| cPutWait1 d 1 3 k

/-- The body after it has read its device's number. -/
def body : Pg F := seg1 d <| seg2 <| seg3 d <| seg4 d <| seg5 d <| .ret ⟨⟩

end Body

set_option maxRecDepth 65536 in
/-- The printed body is `deviceId` and then `body`. -/
theorem body_eq (t : Fin cfg0.N) : (bodyAt0 t : Pg F) = .op .deviceId fun d => body d := by
  unfold bodyAt0; rw [cc0__body_eq_skeleton]; rfl

end Cert.KernelIdeal.P
-- ==== Proof.KI.Place.lean ====
/-
  The mesh as the kernel uses it: a device's place `pos` on the ring of eight that shares its `y`, the devices around
  that ring and around `y`, and the program's device numbers and window offsets in those terms. Also the copies between
  devices (`Cp`): whom they go to, the semaphores they use, the order the body starts them in.
-/
module

public import proofs.«01_k».proof.Proof.KI.Prog

@[expose] public section

noncomputable section

namespace Cert.KernelIdeal.P

open Cert.KernelIdeal Cert.KernelIdeal.Gen
open Idealize.ShloMosaic Idealize.ShloMosaic.TcCoe
open Idealize.SL Idealize.SL.Sem

/-! ## Devices -/

/-- The device's place on its ring. -/
def pos (c : Dev nD) : Fin 8 := ⟨(if c.val / 16 = 0 then c.val % 4 else 7 - c.val % 4) % 8, Nat.mod_lt _ (by decide)⟩

/-- The device at place `p` of the ring of `y`-coordinate `y`. -/
def at' (y p : ℕ) : Dev nD := ⟨(if p % 8 < 4 then 4 * (y % 4) + p % 8 else 16 + 4 * (y % 4) + (7 - p % 8)) % 32, Nat.mod_lt _ (by decide)⟩

/-- The device `i` places further round the same ring. -/
def ringDev (c : Dev nD) (i : Fin 8) : Dev nD := at' (c.val / 4) ((pos c).val + i.val)

/-- The device `i` places further along `y`. -/
def yDev (c : Dev nD) (i : Fin 4) : Dev nD := at' (c.val / 4 + i.val) (pos c).val

/-- The chunk `i` places behind the device's own. -/
def rel (c : Dev nD) (i : Fin 8) : Fin 8 := pos c - i

theorem ringDev_ringDev (c : Dev nD) (i j : Fin 8) : ringDev (ringDev c i) j = ringDev c (i + j) := by
  revert c i j; decide +kernel
theorem ringDev_zero (c : Dev nD) : ringDev c 0 = c := by revert c; decide +kernel
theorem yDev_yDev (c : Dev nD) (i j : Fin 4) : yDev (yDev c i) j = yDev c (i + j) := by
  revert c i j; decide +kernel
theorem yDev_zero (c : Dev nD) : yDev c 0 = c := by revert c; decide +kernel
theorem pos_ringDev (c : Dev nD) (i : Fin 8) : pos (ringDev c i) = pos c + i := by revert c i; decide +kernel
theorem rel_ringDev (c : Dev nD) (i j : Fin 8) : rel (ringDev c i) j = rel c (j - i) := by
  revert c i j; decide +kernel
theorem rel_rel (c : Dev nD) (i : Fin 8) : rel c (rel c i) = i := by revert c i; decide +kernel

/-- Going `i` places round the ring, on every device at once. -/
def ringE (i : Fin 8) : Dev nD ≃ Dev nD :=
  ⟨fun c => ringDev c i, fun c => ringDev c (-i), fun c => (ringDev_ringDev c i (-i)).trans ((congrArg _ (by revert i; decide)).trans (ringDev_zero c)),
    fun c => (ringDev_ringDev c (-i) i).trans ((congrArg _ (by revert i; decide)).trans (ringDev_zero c))⟩
/-- Going `i` places along `y`, on every device at once. -/
def yE (i : Fin 4) : Dev nD ≃ Dev nD :=
  ⟨fun c => yDev c i, fun c => yDev c (-i), fun c => (yDev_yDev c i (-i)).trans ((congrArg _ (by revert i; decide)).trans (yDev_zero c)),
    fun c => (yDev_yDev c (-i) i).trans ((congrArg _ (by revert i; decide)).trans (yDev_zero c))⟩
/-- A device's chunks, counted back from its own. -/
def relE (c : Dev nD) : Fin 8 ≃ Fin 8 := ⟨rel c, rel c, rel_rel c, rel_rel c⟩

/-! ## The copies -/

/-- A copy between devices: half `h`'s part going along `y`, or its chunk going round the ring either way, at step `s`. -/
inductive Cp where
  | y (h : Fin 2) (s : Fin 3)
  | c (h : Fin 2) (s : Fin 4)
  | k (h : Fin 2) (s : Fin 3)
deriving DecidableEq

/-- The copies in the order the body starts them. -/
def order : List Cp :=
  [.y 0 0, .y 0 1, .y 0 2, .c 0 0, .k 0 0, .y 1 0, .c 0 1, .k 0 1, .y 1 1, .c 0 2, .k 0 2, .y 1 2,
    .c 1 0, .k 1 0, .c 0 3, .c 1 1, .k 1 1, .c 1 2, .k 1 2, .c 1 3]

theorem order_nodup : order.Nodup := by decide
theorem mem_order (p : Cp) : p ∈ order := by
  cases p <;> (rename_i h s; revert h s; decide)

instance : Fintype Cp := ⟨⟨(order : Multiset Cp), order_nodup⟩, mem_order⟩

/-- Where a copy is in that order. -/
def num (p : Cp) : ℕ := order.idxOf p

/-- The device a copy goes to. -/
def tgt (p : Cp) (c : Dev nD) : Dev nD := match p with
  | .y _ _ => yDev c 1
  | .c _ _ => ringDev c 1
  | .k _ _ => ringDev c 7

/-- The semaphore that says a copy has left, -/
def sendSem (p : Cp) : DmaSem sig := match p with
  | .y h _ => smYs h
  | .c h _ => smCs h
  | .k h _ => smKs h
/-- and the one that says it has arrived. -/
def recvSem (p : Cp) : DmaSem sig := match p with
  | .y h s => smYr h s
  | .c h s => smCr h s
  | .k h s => smKr h s

/-- A copy's step. -/
def stp (p : Cp) : ℕ := match p with
  | .y _ s => s.val
  | .c _ s => s.val
  | .k _ s => s.val

/-! ## Windows by place -/

abbrev mG (j : Fin 8) (h : Fin 2) : Memref sig .tc .vmem S256x1024 .bf16 := mGo ![j.val, 0, 1024 * h.val] (inbG j h)
abbrev mO (j : Fin 8) (h : Fin 2) : Memref sig .tc .hbm S256x1024 .f32 := mOo ![256 * j.val, 1024 * h.val] (inbO j h)
abbrev m0 (j : Fin 8) : Memref sig .tc .hbm S256x8192 .f32 := m0o ![256 * j.val, 0] (inb0 j)
abbrev rG (j : Fin 8) (h : Fin 2) : Rect S8x256x2048 := rGo ![j.val, 0, 1024 * h.val] (inbG j h)
abbrev rO (j : Fin 8) (h : Fin 2) : Rect S2048x2048 := rOo ![256 * j.val, 1024 * h.val] (inbO j h)
abbrev r0 (j : Fin 8) : Rect S2048x8192 := r0o ![256 * j.val, 0] (inb0 j)

/-- A step as a number of places, and the chunk that arrives at it either way. -/
def i4 (s : Fin 4) : Fin 8 := ⟨s.val, by omega⟩
def i3 (s : Fin 3) : Fin 8 := ⟨s.val, by omega⟩

/-- The window a copy reads on the device sending it, -/
def mS' (p : Cp) (c : Dev nD) : Memref sig .tc .vmem S256x1024 .bf16 := match p with
  | .y h s => mY h s.castSucc
  | .c h s => mG (rel c (i4 s)) h
  | .k h s => mG (rel c (-(i3 s))) h
/-- and the one it fills on the device receiving it. -/
def mD (p : Cp) (c : Dev nD) : Memref sig .tc .vmem S256x1024 .bf16 := match p with
  | .y h s => mY h s.succ
  | .c h s => mG (rel c (i4 s + 1)) h
  | .k h s => mG (rel c (-(i3 s) - 1)) h

/-! ## The program's offsets and device numbers -/

theorem off1_eq (d : Dev nD) : k0_off1 d = ![256 * (pos d).val, 0] := by revert d; decide +kernel
theorem off2_eq (d : Dev nD) : k0_off2 d = ![(rel d 0).val, 0, 1024 * (0 : Fin 2).val] := by revert d; decide +kernel
theorem off3_eq (d : Dev nD) : k0_off3 d = ![256 * (rel d 0).val, 1024 * (0 : Fin 2).val] := by revert d; decide +kernel
theorem off10_eq (d : Dev nD) : k0_off10 d = ![(rel d 0).val, 0, 1024 * (1 : Fin 2).val] := by revert d; decide +kernel
theorem off11_eq (d : Dev nD) : k0_off11 d = ![256 * (rel d 0).val, 1024 * (1 : Fin 2).val] := by revert d; decide +kernel
theorem off4_eq (d : Dev nD) (s : Fin 4) : k0_off4 d (BitVec.ofNat 32 s.val) = ![(rel d (i4 s)).val, 0, 1024 * (0 : Fin 2).val] := by
  revert d s; decide +kernel
theorem off5_eq (d : Dev nD) (s : Fin 3) : k0_off5 d (BitVec.ofNat 32 s.val) = ![(rel d (-(i3 s))).val, 0, 1024 * (0 : Fin 2).val] := by
  revert d s; decide +kernel
theorem off12_eq (d : Dev nD) (s : Fin 4) : k0_off12 d (BitVec.ofNat 32 s.val) = ![(rel d (i4 s)).val, 0, 1024 * (1 : Fin 2).val] := by
  revert d s; decide +kernel
theorem off13_eq (d : Dev nD) (s : Fin 3) : k0_off13 d (BitVec.ofNat 32 s.val) = ![(rel d (-(i3 s))).val, 0, 1024 * (1 : Fin 2).val] := by
  revert d s; decide +kernel
theorem off6_eq (d : Dev nD) (s : Fin 4) : k0_off6 d (BitVec.ofNat 32 (1 + s.val)) = ![(rel d (i4 s + 1)).val, 0, 1024 * (0 : Fin 2).val] := by
  revert d s; decide +kernel
theorem off7_eq (d : Dev nD) (s : Fin 4) : k0_off7 d (BitVec.ofNat 32 (1 + s.val)) = ![256 * (rel d (i4 s + 1)).val, 1024 * (0 : Fin 2).val] := by
  revert d s; decide +kernel
theorem off8_eq (d : Dev nD) (s : Fin 3) : k0_off8 d (BitVec.ofNat 32 (1 + s.val)) = ![(rel d (-(i3 s) - 1)).val, 0, 1024 * (0 : Fin 2).val] := by
  revert d s; decide +kernel
theorem off9_eq (d : Dev nD) (s : Fin 3) : k0_off9 d (BitVec.ofNat 32 (1 + s.val)) = ![256 * (rel d (-(i3 s) - 1)).val, 1024 * (0 : Fin 2).val] := by
  revert d s; decide +kernel
theorem off14_eq (d : Dev nD) (s : Fin 4) : k0_off14 d (BitVec.ofNat 32 (1 + s.val)) = ![(rel d (i4 s + 1)).val, 0, 1024 * (1 : Fin 2).val] := by
  revert d s; decide +kernel
theorem off15_eq (d : Dev nD) (s : Fin 4) : k0_off15 d (BitVec.ofNat 32 (1 + s.val)) = ![256 * (rel d (i4 s + 1)).val, 1024 * (1 : Fin 2).val] := by
  revert d s; decide +kernel
theorem off16_eq (d : Dev nD) (s : Fin 3) : k0_off16 d (BitVec.ofNat 32 (1 + s.val)) = ![(rel d (-(i3 s) - 1)).val, 0, 1024 * (1 : Fin 2).val] := by
  revert d s; decide +kernel
theorem off17_eq (d : Dev nD) (s : Fin 3) : k0_off17 d (BitVec.ofNat 32 (1 + s.val)) = ![256 * (rel d (-(i3 s) - 1)).val, 1024 * (1 : Fin 2).val] := by
  revert d s; decide +kernel

theorem dev1_eq (d : Dev nD) : dv (k0_dev1 d) (k0_dev1_lt d) = yDev d 3 := by revert d; decide +kernel
theorem dev2_eq (d : Dev nD) : dv (k0_dev2 d) (k0_dev2_lt d) = yDev d 1 := by revert d; decide +kernel
theorem dev3_eq (d : Dev nD) : dv (k0_dev3 d) (k0_dev3_lt d) = ringDev d 1 := by revert d; decide +kernel
theorem dev4_eq (d : Dev nD) : dv (k0_dev4 d) (k0_dev4_lt d) = ringDev d 7 := by revert d; decide +kernel
theorem dev5_eq (d : Dev nD) : dv (k0_dev5 d) (k0_dev5_lt d) = yDev d 1 := by revert d; decide +kernel
theorem dev6_eq (d : Dev nD) : dv (k0_dev6 d) (k0_dev6_lt d) = yDev d 1 := by revert d; decide +kernel
theorem dev7_eq (d : Dev nD) : dv (k0_dev7 d) (k0_dev7_lt d) = yDev d 1 := by revert d; decide +kernel
theorem dev8_eq (d : Dev nD) : dv (k0_dev8 d) (k0_dev8_lt d) = ringDev d 1 := by revert d; decide +kernel
theorem dev9_eq (d : Dev nD) : dv (k0_dev9 d) (k0_dev9_lt d) = ringDev d 7 := by revert d; decide +kernel
theorem dev10_eq (d : Dev nD) : dv (k0_dev10 d) (k0_dev10_lt d) = yDev d 1 := by revert d; decide +kernel
theorem dev11_eq (d : Dev nD) : dv (k0_dev11 d) (k0_dev11_lt d) = ringDev d 1 := by revert d; decide +kernel
theorem dev12_eq (d : Dev nD) : dv (k0_dev12 d) (k0_dev12_lt d) = ringDev d 7 := by revert d; decide +kernel
theorem dev13_eq (d : Dev nD) : dv (k0_dev13 d) (k0_dev13_lt d) = yDev d 1 := by revert d; decide +kernel
theorem dev14_eq (d : Dev nD) : dv (k0_dev14 d) (k0_dev14_lt d) = ringDev d 1 := by revert d; decide +kernel
theorem dev15_eq (d : Dev nD) : dv (k0_dev15 d) (k0_dev15_lt d) = ringDev d 7 := by revert d; decide +kernel
theorem dev16_eq (d : Dev nD) : dv (k0_dev16 d) (k0_dev16_lt d) = yDev d 1 := by revert d; decide +kernel
theorem dev17_eq (d : Dev nD) : dv (k0_dev17 d) (k0_dev17_lt d) = ringDev d 1 := by revert d; decide +kernel
theorem dev18_eq (d : Dev nD) : dv (k0_dev18 d) (k0_dev18_lt d) = ringDev d 7 := by revert d; decide +kernel
theorem dev19_eq (d : Dev nD) : dv (k0_dev19 d) (k0_dev19_lt d) = ringDev d 1 := by revert d; decide +kernel
theorem dev20_eq (d : Dev nD) : dv (k0_dev20 d) (k0_dev20_lt d) = ringDev d 1 := by revert d; decide +kernel
theorem dev21_eq (d : Dev nD) : dv (k0_dev21 d) (k0_dev21_lt d) = ringDev d 7 := by revert d; decide +kernel
theorem dev22_eq (d : Dev nD) : dv (k0_dev22 d) (k0_dev22_lt d) = ringDev d 1 := by revert d; decide +kernel
theorem dev23_eq (d : Dev nD) : dv (k0_dev23 d) (k0_dev23_lt d) = ringDev d 7 := by revert d; decide +kernel
theorem dev24_eq (d : Dev nD) : dv (k0_dev24 d) (k0_dev24_lt d) = ringDev d 1 := by revert d; decide +kernel

end Cert.KernelIdeal.P
-- ==== Proof.KI.Vals.lean ====
/-
  What the kernel's windows hold, as functions of the two arguments' contents on every device: the blocks fetched, the
  running sum of products, the part sent along `y`, the finished chunk, its cast sent round the ring, and the block
  staged for the result.
-/
module

public import proofs.«01_k».proof.Proof.KI.Place

@[expose] public section

noncomputable section

namespace Cert.KernelIdeal.P

open Cert.KernelIdeal Cert.KernelIdeal.Gen
open Idealize.ShloMosaic Idealize.ShloMosaic.TcCoe
open Idealize.SL Idealize.SL.Sem

variable {F : FTy → Type} [FloatOps F]

/-- Contents of the two arguments on every device. -/
structure Args (F : FTy → Type) where
  dy : Dev nD → S2048x8192.Idx → Elt F .f32
  w : Dev nD → S2048x8192.Idx → Elt F .f32

variable (X : Args F)

/-- A block with its unit axes put back, and dropped. -/
def usqW {e : EltTy} (x : S1024x1024.Idx → Elt F e) : S1x1024x1024.Idx → Elt F e :=
  fun j => x ((Shape.reshapeEquiv squeezes_S1x1024x1024_S1024x1024.numel_eq).symm j)
def usqY {e : EltTy} (x : S256x1024.Idx → Elt F e) : S1x1x256x1024.Idx → Elt F e :=
  fun j => x ((Shape.reshapeEquiv squeezes_S1x1x256x1024_S256x1024.numel_eq).symm j)
def usqG {e : EltTy} (x : S256x1024.Idx → Elt F e) : S1x256x1024.Idx → Elt F e :=
  fun j => x ((Shape.reshapeEquiv squeezes_S1x256x1024_S256x1024.numel_eq).symm j)
def sqY {e : EltTy} (x : S1x1x256x1024.Idx → Elt F e) : S256x1024.Idx → Elt F e :=
  fun i => x (Shape.reshapeEquiv squeezes_S1x1x256x1024_S256x1024.numel_eq i)
def sqG {e : EltTy} (x : S1x256x1024.Idx → Elt F e) : S256x1024.Idx → Elt F e :=
  fun i => x (Shape.reshapeEquiv squeezes_S1x256x1024_S256x1024.numel_eq i)

/-- The device's rows of `dy`. -/
def DYF (c : Dev nD) : S256x8192.Idx → Elt F .f32 := fun i => X.dy c ((r0 (pos c)).emb i)
/-- The device's rows of `dy`, cast. -/
def DY (c : Dev nD) : S256x8192.Idx → Elt F .bf16 := k0_pay1 (DYF X c)
/-- Block `i` of the device's `W`. -/
def WB (c : Dev nD) (i : Fin 16) : S1024x1024.Idx → Elt F .f32 := fun j => X.w c ((r1 i).emb j)
/-- The cleared running sums, whole and one half of them. -/
def Z0 : S256x2048.Idx → Elt F .f32 := k0_pay2
def Z (h : Fin 2) : S256x1024.Idx → Elt F .f32 := fun j => Z0 (F := F) ((rC h).emb j)
/-- Block `i`'s product added into the running sum `a`. -/
def ACC (c : Dev nD) (i : Fin 16) (a : S256x1024.Idx → Elt F .f32) : S256x1024.Idx → Elt F .f32 :=
  k0_pay5 (fun j => DY X c ((rB (kk i)).emb j)) (usqW (WB X c i)) a

/-- Block `k` of half `h`. -/
def ix (h : Fin 2) (k : Fin 8) : Fin 16 := ⟨8 * h.val + k.val, by omega⟩

/-- Half `h` of the device's own product. -/
def DOT (c : Dev nD) (h : Fin 2) : S256x1024.Idx → Elt F .f32 :=
  ACC X c (ix h 7) <| ACC X c (ix h 6) <| ACC X c (ix h 5) <| ACC X c (ix h 4) <| ACC X c (ix h 3) <| ACC X c (ix h 2) <|
    ACC X c (ix h 1) <| ACC X c (ix h 0) <| Z h

/-- The part a device sends along `y`. -/
def PART (c : Dev nD) (h : Fin 2) : S256x1024.Idx → Elt F .bf16 := sqY (k0_pay13 (DOT X c h))
/-- A part received added into a running sum. -/
def ADD (a : S256x1024.Idx → Elt F .f32) (y : S256x1024.Idx → Elt F .bf16) : S256x1024.Idx → Elt F .f32 := k0_pay21 a (usqY y)
/-- The finished chunk, summed over `y`. -/
def RED (c : Dev nD) (h : Fin 2) : S256x1024.Idx → Elt F .f32 :=
  ADD (ADD (ADD (DOT X c h) (PART X (yDev c (-1)) h)) (PART X (yDev c (-2)) h)) (PART X (yDev c (-3)) h)
/-- The finished chunk cast. -/
def REDB (c : Dev nD) (h : Fin 2) : S256x1024.Idx → Elt F .bf16 := sqG (k0_pay28 (RED X c h))
/-- A chunk of the gathered ones, as staged. -/
def STG (g : S256x1024.Idx → Elt F .bf16) : S256x1024.Idx → Elt F .f32 := sqG (k0_pay30 (usqG g))

/-- The chunk `i` places back, on device `c`. -/
def GV (c : Dev nD) (i : Fin 8) (h : Fin 2) : S256x1024.Idx → Elt F .bf16 := REDB X (ringDev c (-i)) h
/-- The part `i` places back. -/
def YV (c : Dev nD) (i : Fin 4) (h : Fin 2) : S256x1024.Idx → Elt F .bf16 := PART X (yDev c (-i)) h
/-- The result's block `i` places back from the device's own. -/
def OV (c : Dev nD) (i : Fin 8) (h : Fin 2) : S256x1024.Idx → Elt F .f32 := if i = 0 then RED X c h else STG (GV X c i h)

/-- What a copy carries, as its sender holds it, -/
def vS (p : Cp) (c : Dev nD) : S256x1024.Idx → Elt F .bf16 := match p with
  | .y h s => YV X c s.castSucc h
  | .c h s => GV X c (i4 s) h
  | .k h s => GV X c (-(i3 s)) h
/-- and as its receiver does. -/
def vD (p : Cp) (c : Dev nD) : S256x1024.Idx → Elt F .bf16 := match p with
  | .y h s => YV X c s.succ h
  | .c h s => GV X c (i4 s + 1) h
  | .k h s => GV X c (-(i3 s) - 1) h

/-- What arrives is what was sent. -/
theorem vD_tgt (p : Cp) (c : Dev nD) : vD X p (tgt p c) = vS X p c := by
  cases p with
  | y h s =>
    show PART X (yDev (yDev c 1) (-s.succ)) h = PART X (yDev c (-s.castSucc)) h
    rw [yDev_yDev]; congr 2; revert s; decide
  | c h s =>
    show REDB X (ringDev (ringDev c 1) (-(i4 s + 1))) h = REDB X (ringDev c (-i4 s)) h
    rw [ringDev_ringDev]; congr 2; revert s; decide
  | k h s =>
    show REDB X (ringDev (ringDev c 7) (-(-(i3 s) - 1))) h = REDB X (ringDev c (- -(i3 s))) h
    rw [ringDev_ringDev]; congr 2; revert s; decide

/-- A chunk arrives in the window it was sent from, on the next device of the ring either way. -/
theorem mD_tgt_c (h : Fin 2) (s : Fin 4) (c : Dev nD) : mD (.c h s) (tgt (.c h s) c) = mG (rel c (i4 s)) h := by
  show mG (rel (ringDev c 1) (i4 s + 1)) h = _
  rw [rel_ringDev]; congr 2; revert s; decide
theorem mD_tgt_k (h : Fin 2) (s : Fin 3) (c : Dev nD) : mD (.k h s) (tgt (.k h s) c) = mG (rel c (-(i3 s))) h := by
  show mG (rel (ringDev c 7) (-(i3 s) - 1)) h = _
  rw [rel_ringDev]; congr 2; revert s; decide

end Cert.KernelIdeal.P
-- ==== Proof.KI.Plan.lean ====
/-
  The protocol between the devices: which semaphore cell is paid what by whom (`Rd`), what each device owes the others
  at every point of its body (`owed`), and the levels that order the waits. A copy pays its sender's cell with the window
  lent to it and its receiver's cell with the window filled; the barrier hands every device the windows its own copies
  will fill on its neighbours.
-/
module

public import proofs.«01_k».proof.Proof.KI.Vals
public import proofs.«01_k».proof.Proof.Own
public import Idealize.ShloMosaic.Lib.Pipeline.Launch
public import Idealize.ShloMosaic.Lib.Pipeline.Kit

@[expose] public section

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_sep' bigSep_fiberwise bigSep_univ_eq_bigSepL bigSepL_cons_cons bigSepL_singleton bigSep_singleton bigSep_mono bigSep_univ_at bigSep_congr bigSep_elim)
open scoped Idealize.SL.BI
open Idealize.SL.BI.BIBase Idealize.SL.BI.Laws Idealize.SL.ProofMode Idealize.SL.Sem
open Idealize.ShloMosaic.Rounds

/-! ## Ghost state -/

abbrev UB : Type := URounds (GSem nD τ sig) (Fin 4)
abbrev UU : Type := UR sig nD τ × (UB × Counters)

variable {F : FTy → Type} [FloatOps F]

local notation "𝕄" => MT nD τ sig Unit (Elt F) ℕ UU ℕ

abbrev EP : Emb (UR sig nD τ) (MT nD τ sig Unit (Elt F) ℕ UU ℕ) := embL
/-- The copies' and the barrier's cells live in the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

/-- The local transfers' counters. -/
abbrev EC : UEmb Counters (MT nD τ sig Unit (Elt F) ℕ UU ℕ) := countersEmb

/-! ## Cells -/

abbrev rCell (p : Cp) (c : Dev nD) : GSem nD τ sig := ((c : Thread nD τ), .dma (recvSem p))
abbrev sCell (p : Cp) (c : Dev nD) : GSem nD τ sig := ((c : Thread nD τ), .dma (sendSem p))
abbrev bCell (c : Dev nD) : GSem nD τ sig := ((c : Thread nD τ), .reg barS)

/-- The units one copy counts for. -/
abbrev N : ℕ := (mG 0 0).view.dmaCredit
theorem N_pos : 0 < N := View.dmaCredit_pos _ (by decide)

theorem amountY (h : Fin 2) (i : Fin 4) : (mY h i).view.dmaCredit = N := rfl
theorem amountG (j : Fin 8) (h : Fin 2) : (mG j h).view.dmaCredit = N := rfl

/-- The copy, if any, that round `r` of a semaphore is about, and whether it arrives (`true`) or leaves. -/
def job (q : DmaSem sig) (r : ℕ) : Option (Bool × Cp) :=
  match order.find? (fun p => decide (recvSem p = q ∧ r = 0)) with
  | some p => some (true, p)
  | none => (order.find? (fun p => decide (sendSem p = q ∧ stp p = r))).map fun p => (false, p)

theorem job_recv (p : Cp) : job (recvSem p) 0 = some (true, p) := by
  cases p <;> (rename_i h s; revert h s; decide +kernel)
theorem job_send (p : Cp) : job (sendSem p) (stp p) = some (false, p) := by
  cases p <;> (rename_i h s; revert h s; decide +kernel)

theorem job_none {q : DmaSem sig} {r : ℕ} (h1 : ∀ p, recvSem p = q → r ≠ 0) (h2 : ∀ p, sendSem p = q → stp p ≠ r) : job q r = none := by
  unfold job
  rw [List.find?_eq_none.mpr (fun p _ => by simpa using h1 p), List.find?_eq_none.mpr (fun p _ => by simpa using h2 p)]
  rfl

theorem recv_ne_send (p p' : Cp) : recvSem p ≠ sendSem p' := by revert p p'; decide +kernel
theorem job_recv_later (p : Cp) (r : ℕ) (hr : 1 ≤ r) : job (recvSem p) r = none :=
  job_none (fun _ _ => by omega) fun p' h => absurd h.symm (recv_ne_send p p')

/-- The rounds of a sending semaphore. -/
def nS (p : Cp) : ℕ := match p with
  | .y _ _ => 3
  | .c _ _ => 4
  | .k _ _ => 3
theorem stp_lt_nS (p p' : Cp) (h : sendSem p' = sendSem p) : stp p' < nS p := by revert p p'; decide +kernel
theorem job_send_later (p : Cp) (r : ℕ) (hr : nS p ≤ r) : job (sendSem p) r = none :=
  job_none (fun p' h => absurd h (recv_ne_send p' p)) fun p' h => by have := stp_lt_nS p p' h; omega

/-! ## The schedule -/

/-- The share of its window a copy lends: half, as the two rings read the device's own chunk at once, and a device reads
    what it is sending on. -/
def qS (p : Cp) : PosShare TreeShare := match p with
  | .y _ _ => fullShare.left
  | .c _ _ => fullShare.left
  | .k _ _ => fullShare.right

variable (X : Args F)

/-- Part `i` places back of half `h`, and the chunk, held on device `c`. -/
def wY (c : Dev nD) (i : Fin 4) (h : Fin 2) (q : PosShare TreeShare) : sProp 𝕄 := owns (c : Thread nD τ) (mY h i) q (YV X c i h)
def wG (c : Dev nD) (i : Fin 8) (h : Fin 2) (q : PosShare TreeShare) : sProp 𝕄 := owns (c : Thread nD τ) (mG (rel c i) h) q (GV X c i h)

/-- The window a copy lends, and the one it fills. -/
def wS (p : Cp) (c : Dev nD) : sProp 𝕄 := owns (c : Thread nD τ) (mS' p c) (qS p) (vS X p c)
def wD (p : Cp) (c : Dev nD) : sProp 𝕄 := owns (c : Thread nD τ) (mD p c) fullShare (vD X p c)

omit [FloatOps F] in
/-- The window a copy of `c`'s will fill, on the device it goes to. -/
def landing (p : Cp) (c : Dev nD) : sProp 𝕄 := owned (U := UU) (Val := Elt F) (Lvl := ℕ) (Ix := Unit) (Name := ℕ) (tgt p c : Thread nD τ) (mD p (tgt p c)) fullShare

/-- The neighbour a copy goes to, as a number. -/
def kind (p : Cp) : Fin 4 := match p with
  | .y _ _ => 0
  | .c _ _ => 1
  | .k _ _ => 2

omit [FloatOps F] in
/-- What one of the four barrier signals to `c` hands over. -/
def barPay (d : Fin 4) (c : Dev nD) : sProp 𝕄 := bigSep (Finset.univ.filter fun p => kind p = d) fun p => landing (F := F) p c

instance wS_storable (p : Cp) (c : Dev nD) : BI.Storable (upEmb : UEmb _ 𝕄) (wS X p c) := by unfold wS; infer_instance
instance wD_storable (p : Cp) (c : Dev nD) : BI.Storable (upEmb : UEmb _ 𝕄) (wD X p c) := by unfold wD; infer_instance
omit [FloatOps F] in
instance landing_storable (p : Cp) (c : Dev nD) : BI.Storable (upEmb : UEmb _ 𝕄) (landing (F := F) p c) := by unfold landing; infer_instance
omit [FloatOps F] in
instance barPay_storable (d : Fin 4) (c : Dev nD) : BI.Storable (upEmb : UEmb _ 𝕄) (barPay (F := F) d c) := by unfold barPay; infer_instance

/-- The duties of a cell's round. -/
def dutiesOf (sm : SemLoc sig) (r : ℕ) : Finset (Fin 4) := match sm with
  | .reg s => if s = barS ∧ r = 0 then Finset.univ else ∅
  | .dma q => if (job q r).isSome then {0} else ∅

/-- What a duty hands the cell's owner. -/
def payloadOf (c : Dev nD) (sm : SemLoc sig) (r : ℕ) (d : Fin 4) : sProp 𝕄 := match sm with
  | .reg _ => barPay d c
  | .dma q => match job q r with
    | some (true, p) => wD X p c
    | some (false, p) => wS X p c
    | none => iprop(emp)

instance payloadOf_storable (c : Dev nD) (sm : SemLoc sig) (r : ℕ) (d : Fin 4) : BI.Storable (upEmb : UEmb _ 𝕄) (payloadOf X c sm r d) := by
  unfold payloadOf
  (repeat' split) <;> infer_instance

/-- The units of a duty. -/
def amountOf' (sm : SemLoc sig) : ℕ := match sm with
  | .reg _ => 1
  | .dma _ => N

/-- The schedule of every cell. -/
def Rd : Rounds.Schedule (GSem nD τ sig) (Fin 4) 𝕄 where
  duties g r := if g.1.2 = .tc then dutiesOf g.2 r else ∅
  amount g _ _ := amountOf' g.2
  payload g r d := payloadOf X g.1.1 g.2 r d
  amount_pos g _ _ _ := by
    unfold amountOf'; split
    · exact Nat.one_pos
    · exact N_pos

instance Rd_storable (g : GSem nD τ sig) (r : ℕ) (d : Fin 4) : BI.Storable (upEmb : UEmb _ 𝕄) ((Rd X).payload g r d) :=
  payloadOf_storable X g.1.1 g.2 r d

section Sched
variable (p : Cp) (c : Dev nD)

theorem duties_recv : (Rd X).duties (rCell p c) 0 = {0} := by
  show (if (job (recvSem p) 0).isSome then {0} else ∅) = _
  rw [job_recv]; rfl
theorem duties_send : (Rd X).duties (sCell p c) (stp p) = {0} := by
  show (if (job (sendSem p) (stp p)).isSome then {0} else ∅) = _
  rw [job_send]; rfl
theorem duties_bar : (Rd X).duties (bCell c) 0 = Finset.univ := rfl
theorem duties_recv_later : ∀ r, 0 + 1 ≤ r → (Rd X).duties (rCell p c) r = ∅ := fun r hr => by
  show (if (job (recvSem p) r).isSome then {0} else ∅) = _
  rw [job_recv_later p r hr]; rfl
theorem duties_send_later : ∀ r, nS p ≤ r → (Rd X).duties (sCell p c) r = ∅ := fun r hr => by
  show (if (job (sendSem p) r).isSome then {0} else ∅) = _
  rw [job_send_later p r hr]; rfl
theorem duties_bar_later : ∀ r, 0 + 1 ≤ r → (Rd X).duties (bCell c) r = ∅ := fun r hr => by
  show (if barS = barS ∧ r = 0 then _ else ∅) = _
  rw [if_neg (fun h => by omega)]

theorem expect_recv : (Rd X).expect (rCell p c) 0 = N := by
  unfold Schedule.expect Schedule.amountOf; rw [duties_recv, Finset.sum_singleton]; rfl
theorem expect_send : (Rd X).expect (sCell p c) (stp p) = N := by
  unfold Schedule.expect Schedule.amountOf; rw [duties_send, Finset.sum_singleton]; rfl
theorem expect_bar : (Rd X).expect (bCell c) 0 = 4 := rfl

theorem payload_recv : (Rd X).payload (rCell p c) 0 0 = wD X p c := by
  show (match job (recvSem p) 0 with | some (true, p) => wD X p c | some (false, p) => wS X p c | none => iprop(emp)) = _
  rw [job_recv]
theorem payload_send : (Rd X).payload (sCell p c) (stp p) 0 = wS X p c := by
  show (match job (sendSem p) (stp p) with | some (true, p) => wD X p c | some (false, p) => wS X p c | none => iprop(emp)) = _
  rw [job_send]
theorem payload_bar (d : Fin 4) : (Rd X).payload (bCell c) 0 d = barPay d c := rfl

theorem rest_recv : bigSep ((Rd X).duties (rCell p c) 0 \ ∅) (fun d => (Rd X).payload (rCell p c) 0 d) = wD X p c := by
  rw [Finset.sdiff_empty, duties_recv, bigSep_singleton, payload_recv]
theorem rest_send : bigSep ((Rd X).duties (sCell p c) (stp p) \ ∅) (fun d => (Rd X).payload (sCell p c) (stp p) d) = wS X p c := by
  rw [Finset.sdiff_empty, duties_send, bigSep_singleton, payload_send]

omit [FloatOps F] in
/-- What all the copies need is what the four kinds of copies need. -/
theorem by_kind (Φ : Cp → sProp 𝕄) :
    bigSep Finset.univ (fun d : Fin 4 => bigSep (Finset.univ.filter fun p => kind p = d) Φ) = bigSep Finset.univ Φ := by
  rw [bigSep_fiberwise Finset.univ kind Φ, show (Finset.univ : Finset (Fin 4)) = insert 3 (Finset.univ.image kind) from by decide,
    BI.bigSep_insert (by decide), show (Finset.univ.filter fun p => kind p = 3) = ∅ from by decide, BI.bigSep_empty]
  exact BI.equiv_iff.mp BI.emp_sep

/-- The barrier's round hands over every window the device's copies will fill. -/
theorem rest_bar : bigSep ((Rd X).duties (bCell c) 0 \ ∅) (fun d => (Rd X).payload (bCell c) 0 d) = bigSep Finset.univ (fun p => landing (F := F) p c) := by
  rw [Finset.sdiff_empty, duties_bar]
  exact by_kind (fun p => landing (F := F) p c)

end Sched

/-! ## Debts -/

/-- What a device owes for the copies listed, the first on top. -/
def owedL (c : Dev nD) : List Cp → CellTallies nD τ sig Unit
  | [] => 0
  | p :: l => owedL c l + tallyAt (rCell p (tgt p c)) () N

/-- What a device owes before its `n`-th copy. -/
def owed (n : ℕ) (c : Dev nD) : CellTallies nD τ sig Unit := owedL c (order.drop n)

theorem order_drop (p : Cp) : order.drop (num p) = p :: order.drop (num p + 1) := by revert p; decide +kernel
theorem owed_num (p : Cp) (c : Dev nD) : owed (num p) c = owed (num p + 1) c + tallyAt (rCell p (tgt p c)) () N := by
  unfold owed; rw [order_drop]; rfl
theorem owed_end (c : Dev nD) : owed 20 c = 0 := rfl

theorem owedL_pos {c : Dev nD} {g : GSem nD τ sig} {u : Unit} : ∀ {l : List Cp}, 0 < owedL c l g u → ∃ p ∈ l, g = rCell p (tgt p c)
  | [], h => absurd h (Nat.lt_irrefl 0)
  | p :: l, h => by
    unfold owedL at h
    rw [Pi.add_apply, Finsupp.add_apply, tallyAt_apply] at h
    by_cases hp : g = rCell p (tgt p c) ∧ u = ()
    · exact ⟨p, List.mem_cons_self, hp.1⟩
    · rw [if_neg hp, Nat.add_zero] at h
      obtain ⟨p', hp', e⟩ := owedL_pos h
      exact ⟨p', List.mem_cons_of_mem _ hp', e⟩

theorem owed_pos {n : ℕ} {c : Dev nD} {g : GSem nD τ sig} {u : Unit} (h : 0 < owed n c g u) : ∃ p, n ≤ num p ∧ g = rCell p (tgt p c) := by
  obtain ⟨p, hp, e⟩ := owedL_pos h
  refine ⟨p, ?_, e⟩
  obtain ⟨i, hi, rfl⟩ := List.getElem_of_mem hp
  rw [List.getElem_drop]
  unfold num
  rw [order_nodup.idxOf_getElem]; omega

/-- The debts to the barriers, the first signal's on top. -/
def owedB (n : ℕ) (c : Dev nD) : CellTallies nD τ sig Unit := match n with
  | 0 => owed 0 c
  | 1 => owed 0 c + tallyAt (bCell (ringDev c 7)) () 1
  | 2 => owed 0 c + tallyAt (bCell (ringDev c 7)) () 1 + tallyAt (bCell (ringDev c 1)) () 1
  | 3 => owed 0 c + tallyAt (bCell (ringDev c 7)) () 1 + tallyAt (bCell (ringDev c 1)) () 1 + tallyAt (bCell (yDev c 1)) () 1
  | _ => owed 0 c + tallyAt (bCell (ringDev c 7)) () 1 + tallyAt (bCell (ringDev c 1)) () 1 + tallyAt (bCell (yDev c 1)) () 1 + tallyAt (bCell (yDev c 3)) () 1

/-! ## Levels -/

def L (g : GSem nD τ sig) : Finset Unit := if g.1.2 = .tc then {()} else ∅
/-- The barrier below every arrival, the arrivals in the order of their copies, everything else at the bottom. -/
def lvS (sm : SemLoc sig) : ℕ := match sm with
  | .reg _ => 1
  | .dma q => match job q 0 with
    | some (true, p) => num p + 2
    | _ => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (p : Cp) : lvS (.dma (recvSem p)) = num p + 2 := by
  show (match job (recvSem p) 0 with | some (true, p) => num p + 2 | _ => 0) = _
  rw [job_recv]
theorem lv_send (p : Cp) : lvS (.dma (sendSem p)) = 0 := by revert p; decide +kernel

omit [FloatOps F] in
/-- A device that owes only copies from the `n`-th on may wait at any cell below their arrivals. -/
theorem mayWait (c : Dev nD) (sm : SemLoc sig) (n : ℕ) (h : lvS sm < n + 2) :
    (levAts L lv : sProp 𝕄) ⊢ MayWait (c : Thread nD τ) sm () (owed n c) :=
  MayOwe.of_cut (L := L) (lev := lv) (lvS sm) (fun p hp => by rw [Finset.mem_singleton.mp hp, L_tc]; exact Finset.mem_singleton_self _)
    (fun g u hg => by obtain ⟨p, -, rfl⟩ := owed_pos hg; rw [L_tc]; exact Finset.mem_singleton_self _)
    (fun p hp => by rw [Finset.mem_singleton.mp hp]; exact Nat.le_refl _)
    (fun g u hg => by obtain ⟨p, hp, rfl⟩ := owed_pos hg; show lvS sm < lvS (.dma (recvSem p)); rw [lv_recv]; omega)

/-! ## The records every device keeps -/

/-- The cells of a device the devices pay: arrivals, senders, the barrier. -/
abbrev Cx : Type := Cp ⊕ (Fin 3 × Fin 2) ⊕ Unit
/-- The sender's cell a copy uses. -/
def sx (p : Cp) : Fin 3 × Fin 2 := match p with
  | .y h _ => (0, h)
  | .c h _ => (1, h)
  | .k h _ => (2, h)
def sxSem (x : Fin 3 × Fin 2) : DmaSem sig := match x with
  | (0, h) => smYs h
  | (1, h) => smCs h
  | (2, h) => smKs h

def csem (x : Cx) : SemLoc sig := match x with
  | .inl p => .dma (recvSem p)
  | .inr (.inl x) => .dma (sxSem x)
  | .inr (.inr _) => .reg barS

theorem sxSem_sx (p : Cp) : sxSem (sx p) = sendSem p := by revert p; decide +kernel

end Cert.KernelIdeal.P
-- ==== Proof.KI.Steps.lean ====
/-
  What each run of operations of the body does to the windows and cells a device holds.
-/
module

public import proofs.«01_k».proof.Proof.KI.Plan

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_sep' bigSep_fiberwise bigSep_univ_eq_bigSepL bigSepL_cons_cons bigSepL_singleton bigSep_singleton bigSep_mono bigSep_univ_at bigSep_congr bigSep_elim)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a device's program. -/
abbrev WP (c : Dev nD) (p : Pg F) (Q : PUnit → sProp 𝕄) : sProp 𝕄 := wp frame (wpE (defs₀ (F := F)) 𝒱₀ (c : Thread nD τ) none) Set.univ p Q

variable (X : Args F) (K : Dev nD × Cx → ℕ)

/-! ## The records -/

abbrev kcell (ck : Dev nD × Cx) : GSem nD τ sig := ((ck.1 : Thread nD τ), csem ck.2)

/-- Every cell's invariant, and that it has reached round 0. -/
def records : sProp 𝕄 :=
  bigSep Finset.univ fun ck : Dev nD × Cx => iprop(cellInv ER (Rd X) (K ck) (kcell ck) ∗ reached ER (kcell ck) 0)
instance records_persistent : BI.Persistent (records X K) := by unfold records; infer_instance

omit [FloatOps F] in
theorem bigSep_at {I : Type} [Fintype I] [DecidableEq I] (Φ : I → sProp 𝕄) (i : I) : bigSep Finset.univ Φ ⊢ Φ i := bigSep_elim (Finset.mem_univ i)

/-- What every device may use at any time: the records and the levels. -/
def env : sProp 𝕄 := iprop(records X K ∗ levAts L lv)
instance env_persistent : BI.Persistent (env X K) := by unfold env; infer_instance

theorem env_inv (c : Dev nD) (x : Cx) : env X K ⊢ cellInv ER (Rd X) (K (c, x)) ((c : Thread nD τ), csem x) := by
  unfold env records
  iintro ⟨H, -⟩
  ihave H' := (bigSep_at _ (c, x)) $$ H
  icases H' with ⟨H', -⟩
  iexact H'
theorem env_reached (c : Dev nD) (x : Cx) : env X K ⊢ reached ER ((c : Thread nD τ), csem x) 0 := by
  unfold env records
  iintro ⟨H, -⟩
  ihave H' := (bigSep_at _ (c, x)) $$ H
  icases H' with ⟨-, H'⟩
  iexact H'
theorem env_lev : env X K ⊢ levAts L lv := by
  unfold env; iintro ⟨-, H⟩; iexact H

theorem env_mayWait (c : Dev nD) (sm : SemLoc sig) (n : ℕ) (h : lvS sm < n + 2) : env X K ⊢ MayWait (c : Thread nD τ) sm () (owed n c) :=
  (env_lev X K).trans (mayWait c sm n h)

theorem env_recv (p : Cp) (c : Dev nD) : env X K ⊢ cellInv ER (Rd X) (K (c, .inl p)) (rCell p c) := env_inv X K c (.inl p)
theorem env_send (p : Cp) (c : Dev nD) : env X K ⊢ cellInv ER (Rd X) (K (c, .inr (.inl (sx p)))) (sCell p c) := by
  have h := env_inv X K c (.inr (.inl (sx p)))
  unfold csem at h
  simp only [sxSem_sx] at h
  exact h
theorem env_bar (c : Dev nD) : env X K ⊢ cellInv ER (Rd X) (K (c, .inr (.inr ()))) (bCell c) := env_inv X K c (.inr (.inr ()))

/-! ## What a device holds -/

omit [FloatOps F] in
/-- What a device owes before its `n`-th copy, its waits so far aside. -/
def owe (n : ℕ) (c : Dev nD) : sProp 𝕄 := iprop(∃ W, owes (c : Thread nD τ) (owed n c) W)
omit [FloatOps F] in
/-- What it owes while `n` barrier signals are still to be made. -/
def oweB (n : ℕ) (c : Dev nD) : sProp 𝕄 := iprop(∃ W, owes (c : Thread nD τ) (owedB n c) W)

omit [FloatOps F] in
/-- The right to make a copy: both duties, and the window it fills. -/
def ticket (p : Cp) (c : Dev nD) : sProp 𝕄 :=
  iprop((dutyTok ER (sCell p c) (stp p) 0 ∗ dutyTok ER (rCell p (tgt p c)) 0 0) ∗ landing (F := F) p c)
omit [FloatOps F] in
/-- The sender's cell `x` at round `n`. -/
def spos (x : Fin 3 × Fin 2) (n : ℕ) (c : Dev nD) : sProp 𝕄 :=
  iprop(atPos ER ((c : Thread nD τ), .dma (sxSem x)) n ∅ 0 ∗ reached ER ((c : Thread nD τ), .dma (sxSem x)) n)
omit [FloatOps F] in
/-- A copy on its way: the wait for its leaving. -/
def flying (p : Cp) (c : Dev nD) : sProp 𝕄 := iprop(cred (tallyAt (sCell p c) () N) ∗ atPos ER (sCell p c) (stp p) ∅ 0)
omit [FloatOps F] in
/-- The wait for the copy arriving here. -/
def arrive (p : Cp) (c : Dev nD) : sProp 𝕄 := iprop(cred (tallyAt (rCell p c) () N) ∗ atPos ER (rCell p c) 0 ∅ 0)
omit [FloatOps F] in
/-- An arrival's cell, done with. -/
def zr (p : Cp) (c : Dev nD) : sProp 𝕄 := semVal (rCell p c) 0

/-! ## Copies between devices -/

/-- A copy started. -/
theorem copy_send (p : Cp) (c : Dev nD) {sp sp' : Space} {src : Memref sig .tc sp S256x1024 .bf16} {dst : Memref sig .tc sp' S256x1024 .bf16}
    {e : Dev nD} {sS sR : SemLoc sig} {hsc : dst.view.ref.isScScratch = false}
    {hsrc : src.view.WordExact} {hdst : dst.view.WordExact} {hsem : DmaTarget.Typed sp sR (.remote (Dev.tc e) dst sS hsc)} {k : Pg F} {Q : PUnit → sProp 𝕄}
    (he : e = tgt p c) (hS : sS = .dma (sendSem p)) (hR : sR = .dma (recvSem p))
    (hsrcS : wS X p c = owns (c : Thread nD τ) src (qS p) (vS X p c))
    (hdstD : landing (F := F) p c = owned (tgt p c : Thread nD τ) dst fullShare)
    (hD : wD X p (tgt p c) = owns (tgt p c : Thread nD τ) dst fullShare (vS X p c))
    (hN : dst.view.amount sR = N) :
    env X K ⊢ iprop(ticket p c -∗ spos (sx p) (stp p) c -∗ wS X p c -∗ owe (num p) c
        -∗ ((flying p c ∗ owe (num p + 1) c) -∗ WP c k Q)
        -∗ WP c (.op (.enqueueDma src (.remote (Dev.tc e) dst sS hsc) sR hsrc hdst hsem) fun _ => k) Q) := by
  subst he hS hR
  unfold ticket spos owe flying
  simp only [sxSem_sx]
  rw [hdstD, hsrcS]
  iintro #He ⟨⟨Ht1, Ht2⟩, Hd⟩ ⟨Hat, #Hre⟩ Hs ⟨%W, HO⟩ Hk
  ihave #Hi1 := (env_send X K p c) $$ He
  ihave #Hi2 := (env_recv X K p (tgt p c)) $$ He
  ihave #Hr2 := (env_reached X K (tgt p c) (.inl p)) $$ He
  iapply (own_send 𝒱₀ (c : Thread nD τ) none ER (Rd X) (r₁ := stp p) (r₂ := 0) (d₁ := 0) (d₂ := 0)
    (by rw [duties_send]; exact Finset.mem_singleton_self _) (by rw [duties_recv]; exact Finset.mem_singleton_self _)
    () N hN rfl rfl (owed (num p + 1) c) (owed_num p c) (W := W)
    (Entails.of_eq (hsrcS.symm.trans (payload_send X p c).symm))
    (Entails.of_eq (hD.symm.trans (payload_recv X p (tgt p c)).symm)) (by routes)) $$ [Ht1 Ht2 Hd Hs HO]
  · isplitr; · iexact Hi1
    isplitr; · iexact Hi2
    isplitl [Hs]; · iexact Hs
    isplitl [Hd]; · iexact Hd
    isplitl [HO]; · iexact HO
    isplitl [Ht1]; · iexact Ht1
    isplitr; · iexact Hre
    isplitl [Ht2]; · iexact Ht2
    iexact Hr2
  iintro ⟨Hc, HO⟩
  iapply Hk
  isplitl [Hc Hat]
  · isplitl [Hc]; · iexact Hc
    iexact Hat
  iexists W; iexact HO

/-- The two waits for a copy: the window lent is back, the window filled by the neighbour's is here. -/
theorem copy_wait (p : Cp) (c : Dev nD) (n : ℕ) (hn : num p < n) {sp1 sp2 sp3 sp4 : Space} {m1 : Memref sig .tc sp1 S256x1024 .bf16} {m2 : Memref sig .tc sp2 S256x1024 .bf16}
    {m3 : Memref sig .tc sp3 S256x1024 .bf16} {m4 : Memref sig .tc sp4 S256x1024 .bf16}
    {h1 : m1.view.WordExact} {h2 : m2.view.WordExact} {h3 : m3.view.WordExact} {h4 : m4.view.WordExact} {sS sR : DmaSem sig}
    {k : Pg F} {Q : PUnit → sProp 𝕄} (hS : sS = sendSem p) (hR : sR = recvSem p) (hN2 : m2.view.dmaCredit = N) (hN4 : m4.view.dmaCredit = N) :
    env X K ⊢ iprop(flying p c -∗ arrive p c -∗ owe n c
        -∗ ((wS X p c ∗ spos (sx p) (stp p + 1) c ∗ wD X p c ∗ zr p c ∗ owe n c) -∗ WP c k Q)
        -∗ WP c (.op (.waitDma2 sS m1 m2 h1 h2) fun _ => .op (.waitDma2 sR m3 m4 h3 h4) fun _ => k) Q) := by
  subst hS hR
  unfold flying arrive owe spos zr
  simp only [sxSem_sx]
  iintro #He ⟨Hc1, Hat1⟩ ⟨Hc2, Hat2⟩ ⟨%W, HO⟩ Hk
  ihave #Hi1 := (env_send X K p c) $$ He
  ihave #Hi2 := (env_recv X K p c) $$ He
  iapply (Rounds.wp_wait_rest_token 𝒱₀ ER (Rd X) (c : Thread nD τ) none (κ := K (c, .inr (.inl (sx p)))) (sm := .dma (sendSem p))
      (wpE_waitDma2_eq 𝒱₀ (c : Thread nD τ) none Set.univ) (Set.mem_univ _) () (O := owed n c) (W := W) (R := stp p) (m := 0) (T := ∅)
      ((Nat.zero_add _).trans (hN2.trans (expect_send X p c).symm))) $$ [Hc1 HO Hat1]
  · isplitr; · iexact Hi1
    isplitl [Hc1]; · rw [hN2]; iexact Hc1
    isplitl [HO]; · iexact HO
    isplitr; · iapply (env_mayWait X K c (.dma (sendSem p)) n (by rw [lv_send]; omega)); iexact He
    iexact Hat1
  iintro ⟨HO, Hat1, #Hr1, Hpay⟩
  ihave Hs := (Entails.of_eq (rest_send X p c)) $$ Hpay
  iapply (Rounds.wp_wait_rest_token 𝒱₀ ER (Rd X) (c : Thread nD τ) none (κ := K (c, .inl p)) (sm := .dma (recvSem p))
      (wpE_waitDma2_eq 𝒱₀ (c : Thread nD τ) none Set.univ) (Set.mem_univ _) () (O := owed n c) (R := 0) (m := 0) (T := ∅)
      ((Nat.zero_add _).trans (hN4.trans (expect_recv X p c).symm))) $$ [Hc2 HO Hat2]
  · isplitr; · iexact Hi2
    isplitl [Hc2]; · rw [hN4]; iexact Hc2
    isplitl [HO]; · iexact HO
    isplitr; · iapply (env_mayWait X K c (.dma (recvSem p)) n (by rw [lv_recv]; omega)); iexact He
    iexact Hat2
  iintro ⟨HO, Hat2, -, Hpay⟩
  ihave Hd := (Entails.of_eq (rest_recv X p c)) $$ Hpay
  imod (Rounds.cell_close ER (Rd X) (Set.mem_univ (K (c, .inl p))) (fun h => h) (R := 0 + 1) (duties_recv_later X p c)) $$ [Hat2] with Hz
  · isplitr; · iexact Hi2
    iexact Hat2
  iapply Hk
  isplitl [Hs]; · iexact Hs
  isplitl [Hat1]
  · isplitl [Hat1]; · iexact Hat1
    iexact Hr1
  isplitl [Hd]; · iexact Hd
  isplitl [Hz]; · iexact Hz
  iexists _; iexact HO

end Cert.KernelIdeal.P
-- ==== Proof.KI.Local.lean ====
/-
  What the operations a device does alone do to the windows it holds: fetching its rows of `dy` and the blocks of `W`,
  multiplying, adding the parts received, casting, and copying finished blocks to the result.
-/
module

public import proofs.«01_k».proof.Proof.KI.Steps

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_univ_eq_bigSepL bigSepL_cons_cons bigSepL_singleton)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Cx → ℕ) (c : Dev nD)

/-- A wait for a copy within the device: what it delivers is here, and its cell is back at zero. -/
theorem local_wait {sm : DmaSem sig} {M n : ℕ} {D : sProp 𝕄} {sp sp' : Space} {s s' : Shape} {e e' : EltTy}
    {src : Memref sig .tc sp s e} {dst : Memref sig .tc sp' s' e'} {hs : src.view.WordExact} {hd : dst.view.WordExact}
    {k : Pg F} {Q : PUnit → sProp 𝕄} (hlv : lvS (.dma sm) = 0) (hM : dst.view.dmaCredit = M) :
    env X K ⊢ iprop(Transfers.Flight EC (c : Thread nD τ) (.dma sm) () M D -∗ owe n c
      -∗ ((D ∗ semVal ((c : Thread nD τ), .dma sm) 0 ∗ owe n c) -∗ WP c k Q)
      -∗ WP c (.op (.waitDma2 sm src dst hs hd) fun _ => k) Q) := by
  unfold owe
  iintro #He Hf ⟨%W, HO⟩ Hk
  iapply (Transfers.wp_waitLocalO EC 𝒱₀ (c : Thread nD τ) none () hM (O := owed n c) (W := W)) $$ [Hf HO]
  · isplitl [Hf]; · iexact Hf
    isplitl [HO]; · iexact HO
    iapply (env_mayWait X K c (.dma sm) n (by rw [hlv]; omega)); iexact He
  iintro ⟨HD, Hv, HO⟩
  iapply Hk
  isplitl [HD]; · iexact HD
  isplitl [Hv]; · iexact Hv
  iexists _; iexact HO

/-- A copy's window lent, its destination and cell given, in one piece. -/
theorem local_copy {sm : DmaSem sig} {M : ℕ} {sp sp' : Space} {s : Shape} {e : EltTy} {q : PosShare TreeShare} {V : s.Idx → Elt F e}
    {src : Memref sig .tc sp s e} {dst : Memref sig .tc sp' s e} {hs : src.view.WordExact} {hd : dst.view.WordExact}
    {ht : DmaTarget.Typed sp (.dma sm) (DmaTarget.here (nD := nD) (τ := τ) (p := .tc) dst)} {k : Pg F} {Q : PUnit → sProp 𝕄} (hM : dst.view.dmaCredit = M) (h0 : 0 < M) :
    (owns (c : Thread nD τ) src q V : sProp 𝕄) ⊢ iprop(owned (c : Thread nD τ) dst fullShare -∗ semVal ((c : Thread nD τ), .dma sm) 0
      -∗ (Transfers.Flight EC (c : Thread nD τ) (.dma sm) () M iprop(owns (c : Thread nD τ) dst fullShare V ∗ owns (c : Thread nD τ) src q V) -∗ WP c k Q)
      -∗ WP c (.op (.enqueueDma src (.here dst) (.dma sm) hs hd ht) fun _ => k) Q) := by
  unfold owned
  iintro Hs ⟨%Y, Hd⟩ Hv Hk
  iapply (own_copy 𝒱₀ (c : Thread nD τ) none EC (sm := .dma sm) (dst := dst) (q := q) (X := V) (Y := Y) () M hM h0) $$ [Hs Hd Hv]
  · isplitl [Hs]; · iexact Hs
    isplitl [Hd]; · iexact Hd
    iexact Hv
  iexact Hk

/-! ## The blocks of `W` -/

omit [FloatOps F] in
/-- Slot `i` of the blocks fetched, free. -/
def slotW (i : Fin 2) : sProp 𝕄 := iprop(owned (U := UU) (Val := Elt F) (Lvl := ℕ) (Ix := Unit) (Name := ℕ) (c : Thread nD τ) (mW i) fullShare ∗ semVal ((c : Thread nD τ), .dma (smW i)) 0)
/-- The device's `W`. -/
def argW : sProp 𝕄 := owns (c : Thread nD τ) A1 fullShare (X.w c)
/-- The device's `dy`. -/
def argD : sProp 𝕄 := owns (c : Thread nD τ) A0 fullShare (X.dy c)
abbrev NW : ℕ := (mW 0).view.dmaCredit
/-- Block `i` on its way. -/
def fetching (i : Fin 16) : sProp 𝕄 :=
  iprop(Transfers.Flight EC (c : Thread nD τ) (.dma (smW (sl i))) () NW
      iprop(owns (c : Thread nD τ) (mW (sl i)) fullShare (WB X c i) ∗ owns (c : Thread nD τ) (m1 i) fullShare (WB X c i))
    ∗ (owns (c : Thread nD τ) (m1 i) fullShare (WB X c i) -∗ argW X c))
/-- Block `i` here. -/
def blockW (i : Fin 16) : sProp 𝕄 := iprop(owns (c : Thread nD τ) (mW (sl i)) fullShare (WB X c i) ∗ semVal ((c : Thread nD τ), .dma (smW (sl i))) 0)
/-- The cast rows of `dy`. -/
def rowsD : sProp 𝕄 := owns (c : Thread nD τ) A4 fullShare (DY X c)
omit [FloatOps F] in
/-- The running sum of half `h`. -/
def sumC (h : Fin 2) (a : S256x1024.Idx → Elt F .f32) : sProp 𝕄 := owns (c : Thread nD τ) (mC h) fullShare a

theorem lv_W (i : Fin 2) : lvS (.dma (smW i)) = 0 := by revert i; decide +kernel
theorem lv_S (i : Fin 2) : lvS (.dma (smS i)) = 0 := by revert i; decide +kernel
theorem lv_O (i : Fin 2) : lvS (.dma (smO i)) = 0 := by revert i; decide +kernel
theorem lv_D : lvS (.dma smD) = 0 := by decide +kernel

theorem wFetch_wp {k : Pg F} {Q : PUnit → sProp 𝕄} (i : Fin 16) (s : Fin 2) (hs : sl i = s := by decide) : slotW c s ⊢ iprop(argW X c -∗ (fetching X c i -∗ WP c k Q) -∗ WP c (wFetch i k) Q) := by
  subst hs
  unfold slotW argW fetching wFetch
  iintro ⟨Hd, Hv⟩ HW Hk
  ihave H := (own_borrow (c : Thread nD τ) A1 fullShare (r := r1 i) (fun _ => rfl) (X.w c)) $$ HW
  icases H with ⟨Hs, Hb⟩
  iapply (local_copy c (src := m1 i) (dst := mW (sl i)) (M := NW) rfl (View.dmaCredit_pos _ (by decide))) $$ Hs Hd Hv
  iintro Hf
  iapply Hk
  isplitl [Hf]; · iexact Hf
  iexact Hb

theorem wWait_wp {k : Pg F} {Q : PUnit → sProp 𝕄} (i : Fin 16) {n : ℕ} : env X K ⊢ iprop(fetching X c i -∗ owe n c -∗ ((blockW X c i ∗ argW X c ∗ owe n c) -∗ WP c k Q) -∗ WP c (wWait i k) Q) := by
  unfold fetching blockW wWait
  iintro #He ⟨Hf, Hb⟩ HO Hk
  iapply (local_wait X K c (src := m1 i) (dst := mW (sl i)) (M := NW) (lv_W _) rfl) $$ He Hf HO
  iintro ⟨⟨Hd, Hs⟩, Hv, HO⟩
  iapply Hk
  isplitl [Hd Hv]
  · isplitl [Hd]; · iexact Hd
    iexact Hv
  isplitl [Hb Hs]
  · iapply Hb; iexact Hs
  iexact HO

theorem dotCore_wp {k : Pg F} {Q : PUnit → sProp 𝕄} (i : Fin 16) (h : Fin 2) (a : S256x1024.Idx → Elt F .f32) (hh : hf i = h := by decide) :
    blockW X c i ⊢ iprop(rowsD X c -∗ sumC c h a -∗ ((slotW c (sl i) ∗ rowsD X c ∗ sumC c h (ACC X c i a)) -∗ WP c k Q) -∗ WP c (dotCore i k) Q) := by
  subst hh
  unfold blockW slotW rowsD sumC dotCore
  iintro ⟨Hw, Hv⟩ HD Ha Hk
  iapply (own_load 𝒱₀ (c : Thread nD τ) none) $$ HD
  iintro HD
  iapply (own_load_sq 𝒱₀ (c : Thread nD τ) none (hr := fun _ => rfl) (h := squeezes_S1x1024x1024_S1024x1024)) $$ Hw
  iintro Hw
  iapply (own_load_slice 𝒱₀ (c : Thread nD τ) none (hr := fun _ => rfl)) $$ Ha
  iintro Ha
  iapply (own_load_slice 𝒱₀ (c : Thread nD τ) none (hr := fun _ => rfl)) $$ Ha
  iintro Ha
  iapply (own_store_slice 𝒱₀ (c : Thread nD τ) none (hr := fun _ => rfl)) $$ Ha
  iintro Ha
  iapply Hk
  isplitl [Hw Hv]
  · isplitl [Hw]; · iapply (owned_intro (c : Thread nD τ) (mW (sl i)) fullShare (WB X c i)); iexact Hw
    iexact Hv
  isplitl [HD]; · iexact HD
  iexact Ha

/-- One block: wait for it, start the next one, multiply. -/
theorem dot_wp {k : Pg F} {Q : PUnit → sProp 𝕄} (i i' : Fin 16) (s s' : Fin 2) (h : Fin 2) (a : S256x1024.Idx → Elt F .f32) {n : ℕ} (hc : hf i = h ∧ sl i = s ∧ sl i' = s' := by decide) :
    env X K ⊢ iprop(fetching X c i -∗ slotW c s' -∗ rowsD X c -∗ sumC c h a -∗ owe n c
      -∗ ((fetching X c i' ∗ slotW c s ∗ rowsD X c ∗ sumC c h (ACC X c i a) ∗ owe n c) -∗ WP c k Q) -∗ WP c (dot i i' k) Q) := by
  obtain ⟨rfl, rfl, rfl⟩ := hc
  unfold dot
  iintro #He Hf Hs HD Ha HO Hk
  iapply (wWait_wp X K c i) $$ He Hf HO
  iintro ⟨Hb, HW, HO⟩
  iapply (wFetch_wp X c i' _ rfl) $$ Hs HW
  iintro Hf
  iapply (dotCore_wp X c i (hf i) a rfl) $$ Hb HD Ha
  iintro ⟨Hs, HD, Ha⟩
  iapply Hk
  isplitl [Hf]; · iexact Hf
  isplitl [Hs]; · iexact Hs
  isplitl [HD]; · iexact HD
  isplitl [Ha]; · iexact Ha
  iexact HO

/-! ## Sums and casts -/

/-- The part in slot `i` added into the running sum. -/
theorem accY_wp {k : Pg F} {Q : PUnit → sProp 𝕄} (h : Fin 2) (i : Fin 4) (a : S256x1024.Idx → Elt F .f32) {q : PosShare TreeShare} :
    wY X c i h q ⊢ iprop(sumC c h a -∗ ((wY X c i h q ∗ sumC c h (ADD a (YV X c i h))) -∗ WP c k Q) -∗ WP c (accY h i k) Q) := by
  unfold wY sumC accY
  iintro Hy Ha Hk
  iapply (own_load_slice 𝒱₀ (c : Thread nD τ) none (hr := fun _ => rfl)) $$ Ha
  iintro Ha
  iapply (own_load_sq 𝒱₀ (c : Thread nD τ) none (hr := fun _ => rfl) (h := squeezes_S1x1x256x1024_S256x1024)) $$ Hy
  iintro Hy
  iapply (own_load_slice 𝒱₀ (c : Thread nD τ) none (hr := fun _ => rfl)) $$ Ha
  iintro Ha
  iapply (own_store_slice 𝒱₀ (c : Thread nD τ) none (hr := fun _ => rfl)) $$ Ha
  iintro Ha
  iapply Hk
  isplitl [Hy]; · iexact Hy
  iexact Ha

/-- A part's share halved, and joined again. -/
theorem wY_halves (i : Fin 4) (h : Fin 2) : wY X c i h fullShare ⊢ iprop(wY X c i h fullShare.left ∗ wY X c i h fullShare.right) :=
  owns_halves (c : Thread nD τ) (mY h i) (YV X c i h)
omit [FloatOps F] in
/-- The window of a part, of a chunk, at whatever it holds. -/
def doneY (i : Fin 4) (h : Fin 2) : sProp 𝕄 := owned (c : Thread nD τ) (mY h i) fullShare
omit [FloatOps F] in
def doneG (i : Fin 8) (h : Fin 2) : sProp 𝕄 := owned (c : Thread nD τ) (mG (rel c i) h) fullShare
theorem wY_done (i : Fin 4) (h : Fin 2) : wY X c i h fullShare.left ⊢ iprop(wY X c i h fullShare.right -∗ doneY c i h) := by
  unfold wY doneY
  iintro H1 H2
  iapply (owned_intro (c : Thread nD τ) (mY h i) fullShare (YV X c i h))
  iapply (owns_join (c : Thread nD τ) (mY h i) (YV X c i h) (YV X c i h))
  isplitl [H1]; · iexact H1
  iexact H2
/-- A chunk's share halved, and joined again. -/
theorem wG_halves (i : Fin 8) (h : Fin 2) : wG X c i h fullShare ⊢ iprop(wG X c i h fullShare.left ∗ wG X c i h fullShare.right) :=
  owns_halves (c : Thread nD τ) (mG (rel c i) h) (GV X c i h)
theorem wG_done (i : Fin 8) (h : Fin 2) : wG X c i h fullShare.left ⊢ iprop(wG X c i h fullShare.right -∗ doneG c i h) := by
  unfold wG doneG
  iintro H1 H2
  iapply (owned_intro (c : Thread nD τ) (mG (rel c i) h) fullShare (GV X c i h))
  iapply (owns_join (c : Thread nD τ) (mG (rel c i) h) (GV X c i h) (GV X c i h))
  isplitl [H1]; · iexact H1
  iexact H2

/-- The device's own sum cast into slot 0. -/
theorem castY_wp {k : Pg F} {Q : PUnit → sProp 𝕄} (h : Fin 2) (a : S256x1024.Idx → Elt F .f32) (ha : a = DOT X c h) :
    sumC c h a ⊢ iprop(doneY c 0 h
      -∗ ((sumC c h (DOT X c h) ∗ wY X c 0 h fullShare.left ∗ wY X c 0 h fullShare.right) -∗ WP c k Q) -∗ WP c (castY h k) Q) := by
  subst ha
  unfold sumC castY doneY
  iintro Ha Hy Hk
  iapply (own_load_slice 𝒱₀ (c : Thread nD τ) none (hr := fun _ => rfl)) $$ Ha
  iintro Ha
  iapply (owned_load_sq 𝒱₀ (c : Thread nD τ) none (hr := fun _ => rfl) (h := squeezes_S1x1x256x1024_S256x1024)) $$ Hy
  iintro Hy
  iapply (own_store_sq 𝒱₀ (c : Thread nD τ) none (hr := fun _ => rfl) (h := squeezes_S1x1x256x1024_S256x1024)) $$ Hy
  iintro Hy
  iapply Hk
  isplitl [Ha]; · iexact Ha
  iapply (wY_halves X c 0 h)
  unfold wY
  rw [show YV X c 0 h = PART X c h from by unfold YV; rw [show (-(0 : Fin 4)) = 0 from by decide, yDev_zero]]
  iexact Hy

/-- The finished sum cast into the device's own chunk. -/
theorem castG_wp {k : Pg F} {Q : PUnit → sProp 𝕄} (h : Fin 2) {o : Fin 3 → Nat} {ho : ∀ a, o a + S1x256x1024.size a ≤ S8x256x2048.size a} {hp : (A8.access (rGo o ho)).Stores Finset.univ}
    (e : o = ![(rel c 0).val, 0, 1024 * h.val]) (a : S256x1024.Idx → Elt F .f32) (ha : a = RED X c h) :
    sumC c h a ⊢ iprop(doneG c 0 h
      -∗ ((sumC c h (RED X c h) ∗ wG X c 0 h fullShare.left ∗ wG X c 0 h fullShare.right) -∗ WP c k Q) -∗ WP c (castG o ho h hp k) Q) := by
  subst ha e
  unfold sumC castG doneG
  iintro Ha Hy Hk
  iapply (own_load_slice 𝒱₀ (c : Thread nD τ) none (hr := fun _ => rfl)) $$ Ha
  iintro Ha
  iapply (owned_load_sq 𝒱₀ (c : Thread nD τ) none (hr := fun _ => rfl) (h := squeezes_S1x256x1024_S256x1024)) $$ Hy
  iintro Hy
  iapply (own_store_sq 𝒱₀ (c : Thread nD τ) none (hr := fun _ => rfl) (h := squeezes_S1x256x1024_S256x1024)) $$ Hy
  iintro Hy
  iapply Hk
  isplitl [Ha]; · iexact Ha
  iapply (wG_halves X c 0 h)
  unfold wG
  rw [show GV X c 0 h = REDB X c h from by unfold GV; rw [show (-(0 : Fin 8)) = 0 from by decide, ringDev_zero]]
  iexact Hy

/-! ## The result's blocks -/

omit [FloatOps F] in
/-- Staging slot `i`, free. -/
def slotS (i : Fin 2) : sProp 𝕄 := iprop(owned (U := UU) (Val := Elt F) (Lvl := ℕ) (Ix := Unit) (Name := ℕ) (c : Thread nD τ) (mS i) fullShare ∗ semVal ((c : Thread nD τ), .dma (smS i)) 0)
omit [FloatOps F] in
/-- The result's block `j` places back of half `h`, not written yet. -/
def outF (j : Fin 8) (h : Fin 2) : sProp 𝕄 := owned (U := UU) (Val := Elt F) (Lvl := ℕ) (Ix := Unit) (Name := ℕ) (c : Thread nD τ) (mO (rel c j) h) fullShare
/-- That block written. -/
def outD (j : Fin 8) (h : Fin 2) : sProp 𝕄 := owns (c : Thread nD τ) (mO (rel c j) h) fullShare (OV X c j h)
abbrev NO : ℕ := (mO 0 0).view.dmaCredit
/-- That block on its way from staging slot `i`. -/
def putting (i : Fin 2) (j : Fin 8) (h : Fin 2) : sProp 𝕄 :=
  Transfers.Flight EC (c : Thread nD τ) (.dma (smS i)) () NO
    iprop(owns (c : Thread nD τ) (mO (rel c j) h) fullShare (STG (GV X c j h)) ∗ owns (c : Thread nD τ) (mS i) fullShare (STG (GV X c j h)))
/-- The device's own block on its way. -/
def putOwn (h : Fin 2) : sProp 𝕄 :=
  Transfers.Flight EC (c : Thread nD τ) (.dma (smO h)) () NO
    iprop(owns (c : Thread nD τ) (mO (rel c 0) h) fullShare (RED X c h) ∗ owns (c : Thread nD τ) (mC h) fullShare (RED X c h))

/-- A chunk staged and its copy to the result started. -/
theorem put_wp {k : Pg F} {Q : PUnit → sProp 𝕄} (i : Fin 2) (h : Fin 2) (j j' : Fin 8) {o : Fin 3 → Nat} {ho : ∀ a, o a + S1x256x1024.size a ≤ S8x256x2048.size a}
    {o2 : Fin 2 → Nat} {ho2 : ∀ a, o2 a + S256x1024.size a ≤ S2048x2048.size a} {q : PosShare TreeShare}
    (e : o = ![(rel c j').val, 0, 1024 * h.val]) (e2 : o2 = ![256 * (rel c j').val, 1024 * h.val]) (hj : j' = j := by decide) :
    wG X c j h q ⊢ iprop(slotS c i -∗ outF c j h -∗ ((wG X c j h q ∗ putting X c i j h) -∗ WP c k Q) -∗ WP c (stage o ho i (sPut o2 ho2 i k)) Q) := by
  subst e e2 hj
  unfold wG slotS outF putting stage sPut
  iintro Hg ⟨Hs, Hv⟩ Ho Hk
  iapply (own_load_sq 𝒱₀ (c : Thread nD τ) none (hr := fun _ => rfl) (h := squeezes_S1x256x1024_S256x1024)) $$ Hg
  iintro Hg
  iapply (owned_load_sq 𝒱₀ (c : Thread nD τ) none (hr := fun _ => rfl) (h := squeezes_S1x256x1024_S256x1024)) $$ Hs
  iintro Hs
  iapply (own_store_sq 𝒱₀ (c : Thread nD τ) none (hr := fun _ => rfl) (h := squeezes_S1x256x1024_S256x1024)) $$ Hs
  iintro Hs
  iapply (local_copy c (src := mS i) (dst := mO (rel c j') h) (M := NO) rfl (View.dmaCredit_pos _ (by decide))) $$ Hs Ho Hv
  iintro Hf
  iapply Hk
  isplitl [Hg]; · iexact Hg
  iexact Hf

/-- The wait for that copy. -/
theorem putWait_wp {k : Pg F} {Q : PUnit → sProp 𝕄} (i : Fin 2) (h : Fin 2) (j j' : Fin 8) {o2 : Fin 2 → Nat} {ho2 : ∀ a, o2 a + S256x1024.size a ≤ S2048x2048.size a} {n : ℕ}
    (e2 : o2 = ![256 * (rel c j').val, 1024 * h.val]) (hj : j' = j ∧ j ≠ 0 := by decide) :
    env X K ⊢ iprop(putting X c i j h -∗ owe n c -∗ ((outD X c j h ∗ slotS c i ∗ owe n c) -∗ WP c k Q) -∗ WP c (sWait o2 ho2 i k) Q) := by
  obtain ⟨rfl, hj⟩ := hj
  subst e2
  unfold putting outD slotS sWait OV
  rw [if_neg hj]
  iintro #He Hf HO Hk
  iapply (local_wait X K c (src := mS i) (dst := mO (rel c j') h) (M := NO) (lv_S _) rfl) $$ He Hf HO
  iintro ⟨⟨Hd, Hs⟩, Hv, HO⟩
  iapply Hk
  isplitl [Hd]; · iexact Hd
  isplitl [Hs Hv]
  · isplitl [Hs]; · iapply (owned_intro (c : Thread nD τ) (mS i) fullShare _); iexact Hs
    iexact Hv
  iexact HO

/-- The device's own finished sum copied to the result. -/
theorem oPut_wp {k : Pg F} {Q : PUnit → sProp 𝕄} (h : Fin 2) {o2 : Fin 2 → Nat} {ho2 : ∀ a, o2 a + S256x1024.size a ≤ S2048x2048.size a} (e2 : o2 = ![256 * (rel c 0).val, 1024 * h.val]) :
    sumC c h (RED X c h) ⊢ iprop(outF c 0 h -∗ semVal ((c : Thread nD τ), .dma (smO h)) 0 -∗ (putOwn X c h -∗ WP c k Q) -∗ WP c (oPut o2 ho2 h k) Q) := by
  subst e2
  unfold sumC outF putOwn oPut
  iintro Ha Ho Hv Hk
  iapply (local_copy c (src := mC h) (dst := mO (rel c 0) h) (M := NO) rfl (View.dmaCredit_pos _ (by decide))) $$ Ha Ho Hv
  iexact Hk

theorem oWait_wp {k : Pg F} {Q : PUnit → sProp 𝕄} (h : Fin 2) {o2 : Fin 2 → Nat} {ho2 : ∀ a, o2 a + S256x1024.size a ≤ S2048x2048.size a} {n : ℕ} (e2 : o2 = ![256 * (rel c 0).val, 1024 * h.val]) :
    env X K ⊢ iprop(putOwn X c h -∗ owe n c -∗ ((outD X c 0 h ∗ sumC c h (RED X c h) ∗ semVal ((c : Thread nD τ), .dma (smO h)) 0 ∗ owe n c) -∗ WP c k Q) -∗ WP c (oWait o2 ho2 h k) Q) := by
  subst e2
  unfold putOwn outD sumC oWait OV
  rw [if_pos rfl]
  iintro #He Hf HO Hk
  iapply (local_wait X K c (src := mC h) (dst := mO (rel c 0) h) (M := NO) (lv_O _) rfl) $$ He Hf HO
  iintro ⟨⟨Hd, Hs⟩, Hv, HO⟩
  iapply Hk
  isplitl [Hd]; · iexact Hd
  isplitl [Hs]; · iexact Hs
  isplitl [Hv]; · iexact Hv
  iexact HO

end Cert.KernelIdeal.P
-- ==== Proof.KI.Remote.lean ====
/-
  What the copies between devices do: each takes the window it reads and the right to fill the neighbour's, and its two
  waits give back the window read and bring the window the other neighbour filled.
-/
module

public import proofs.«01_k».proof.Proof.KI.Local

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_univ_eq_bigSepL bigSepL_cons_cons bigSepL_singleton)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Cx → ℕ) (c : Dev nD)

omit [FloatOps F] in
/-- What a device needs to make a copy and to take the one its other neighbour makes at the same time. -/
def tick (p : Cp) (c : Dev nD) : sProp 𝕄 := iprop(ticket p c ∗ arrive p c)
omit [FloatOps F] in
/-- Both on their way. -/
def fly (p : Cp) (c : Dev nD) : sProp 𝕄 := iprop(flying (F := F) p c ∗ arrive p c)

/-- A copy started, with what its arrival needs kept beside it. -/
theorem any_send (p : Cp) {sp sp' : Space} {src : Memref sig .tc sp S256x1024 .bf16} {dst : Memref sig .tc sp' S256x1024 .bf16}
    {e : Dev nD} {sS sR : SemLoc sig} {hsc : dst.view.ref.isScScratch = false}
    {hsrc : src.view.WordExact} {hdst : dst.view.WordExact} {hsem : DmaTarget.Typed sp sR (.remote (Dev.tc e) dst sS hsc)} {k : Pg F} {Q : PUnit → sProp 𝕄}
    (he : e = tgt p c) (hS : sS = .dma (sendSem p)) (hR : sR = .dma (recvSem p))
    (hsrcS : wS X p c = owns (c : Thread nD τ) src (qS p) (vS X p c))
    (hdstD : landing (F := F) p c = owned (tgt p c : Thread nD τ) dst fullShare)
    (hD : wD X p (tgt p c) = owns (tgt p c : Thread nD τ) dst fullShare (vS X p c))
    (hN : dst.view.amount sR = N) :
    env X K ⊢ iprop(tick p c -∗ spos (sx p) (stp p) c -∗ wS X p c -∗ owe (num p) c
        -∗ ((fly p c ∗ owe (num p + 1) c) -∗ WP c k Q)
        -∗ WP c (.op (.enqueueDma src (.remote (Dev.tc e) dst sS hsc) sR hsrc hdst hsem) fun _ => k) Q) := by
  unfold tick fly
  iintro #He ⟨Ht, Ha⟩ Hp Hs HO Hk
  iapply (copy_send X K p c he hS hR hsrcS hdstD hD hN) $$ He Ht Hp Hs HO
  iintro ⟨Hf, HO⟩
  iapply Hk
  isplitl [Hf Ha]
  · isplitl [Hf]; · iexact Hf
    iexact Ha
  iexact HO

/-- The two waits, the neighbour's window in hand. -/
theorem any_wait (p : Cp) (n : ℕ) (hn : num p < n) {sp1 sp2 sp3 sp4 : Space} {m1 : Memref sig .tc sp1 S256x1024 .bf16} {m2 : Memref sig .tc sp2 S256x1024 .bf16}
    {m3 : Memref sig .tc sp3 S256x1024 .bf16} {m4 : Memref sig .tc sp4 S256x1024 .bf16}
    {h1 : m1.view.WordExact} {h2 : m2.view.WordExact} {h3 : m3.view.WordExact} {h4 : m4.view.WordExact} {sS sR : DmaSem sig}
    {k : Pg F} {Q : PUnit → sProp 𝕄} (hS : sS = sendSem p) (hR : sR = recvSem p) (hN2 : m2.view.dmaCredit = N) (hN4 : m4.view.dmaCredit = N) :
    env X K ⊢ iprop(fly p c -∗ owe n c
        -∗ ((wS X p c ∗ spos (sx p) (stp p + 1) c ∗ wD X p c ∗ zr p c ∗ owe n c) -∗ WP c k Q)
        -∗ WP c (.op (.waitDma2 sS m1 m2 h1 h2) fun _ => .op (.waitDma2 sR m3 m4 h3 h4) fun _ => k) Q) := by
  unfold fly
  iintro #He ⟨Hf, Ha⟩ HO Hk
  iapply (copy_wait X K p c n hn hS hR hN2 hN4) $$ He Hf Ha HO
  iexact Hk

/-! ## Along `y` -/

theorem ySend_wp {k : Pg F} {Q : PUnit → sProp 𝕄} (h : Fin 2) (s : Fin 3) {i : Fin 4} {r n : ℕ} {e : Dev nD} (he : e = yDev c 1)
    (hc : s.castSucc = i ∧ s.val = r ∧ num (.y h s) = n := by decide) :
    env X K ⊢ iprop(tick (.y h s) c -∗ spos (0, h) r c -∗ wY X c i h fullShare.left -∗ owe n c
      -∗ ((fly (.y h s) c ∗ owe (n + 1) c) -∗ WP c k Q) -∗ WP c (ySend h s e k) Q) := by
  obtain ⟨rfl, rfl, rfl⟩ := hc
  exact any_send X K c (.y h s) he rfl rfl rfl rfl (congrArg (fun v => owns (yDev c 1 : Thread nD τ) (mY h s.succ) fullShare v) (vD_tgt X (.y h s) c)) (amountY h s.succ)

theorem yWait_full {k : Pg F} {Q : PUnit → sProp 𝕄} (h : Fin 2) (s : Fin 3) (i j : Fin 4) (r : ℕ) {n : ℕ}
    (hc : s.castSucc = i ∧ s.succ = j ∧ s.val + 1 = r ∧ num (.y h s) < n := by decide) :
    env X K ⊢ iprop(fly (.y h s) c -∗ owe n c
      -∗ ((wY X c i h fullShare.left ∗ spos (0, h) r c ∗ wY X c j h fullShare ∗ zr (.y h s) c ∗ owe n c) -∗ WP c k Q) -∗ WP c (yWait h s k) Q) := by
  obtain ⟨rfl, rfl, rfl, hn⟩ := hc
  exact any_wait X K c (.y h s) n hn rfl rfl (amountY h s.castSucc) (amountY h s.succ)

theorem yWait_wp {k : Pg F} {Q : PUnit → sProp 𝕄} (h : Fin 2) (s : Fin 3) (i j : Fin 4) (r : ℕ) {n : ℕ}
    (hc : s.castSucc = i ∧ s.succ = j ∧ s.val + 1 = r ∧ num (.y h s) < n := by decide) :
    env X K ⊢ iprop(fly (.y h s) c -∗ owe n c
      -∗ ((wY X c i h fullShare.left ∗ spos (0, h) r c ∗ (wY X c j h fullShare.left ∗ wY X c j h fullShare.right) ∗ zr (.y h s) c ∗ owe n c) -∗ WP c k Q) -∗ WP c (yWait h s k) Q) := by
  iintro #He Hf HO Hk
  iapply (yWait_full X K c h s i j r hc) $$ He Hf HO
  iintro ⟨Hs, Hp, Hd, Hz, HO⟩
  iapply Hk
  isplitl [Hs]; · iexact Hs
  isplitl [Hp]; · iexact Hp
  isplitl [Hd]; · iapply (wY_halves X c j h); iexact Hd
  isplitl [Hz]; · iexact Hz
  iexact HO

/-! ## Round the ring -/

theorem cSend_wp {k : Pg F} {Q : PUnit → sProp 𝕄} (h : Fin 2) (s : Fin 4) {i : Fin 8} {r n : ℕ} {e : Dev nD}
    {o : Fin 3 → Nat} {ho : ∀ a, o a + S1x256x1024.size a ≤ S8x256x2048.size a} {hw : (mGo o ho).view.WordExact}
    (eo : o = ![(rel c (i4 s)).val, 0, 1024 * h.val]) (he : e = ringDev c 1)
    (hc : i4 s = i ∧ s.val = r ∧ num (.c h s) = n := by decide) :
    env X K ⊢ iprop(tick (.c h s) c -∗ spos (1, h) r c -∗ wG X c i h fullShare.left -∗ owe n c
      -∗ ((fly (.c h s) c ∗ owe (n + 1) c) -∗ WP c k Q) -∗ WP c (gSend o ho hw e (smCs h) (smCr h s) k) Q) := by
  obtain ⟨rfl, rfl, rfl⟩ := hc
  subst eo
  exact any_send X K c (.c h s) he rfl rfl rfl
    (congrArg (fun m => owned (ringDev c 1 : Thread nD τ) m fullShare) (mD_tgt_c h s c))
    (congrArg₂ (fun m v => owns (ringDev c 1 : Thread nD τ) m fullShare v) (mD_tgt_c h s c) (vD_tgt X (.c h s) c)) (amountG (rel c (i4 s)) h)

theorem kSend_wp {k : Pg F} {Q : PUnit → sProp 𝕄} (h : Fin 2) (s : Fin 3) {i : Fin 8} {r n : ℕ} {e : Dev nD}
    {o : Fin 3 → Nat} {ho : ∀ a, o a + S1x256x1024.size a ≤ S8x256x2048.size a} {hw : (mGo o ho).view.WordExact}
    (eo : o = ![(rel c (-(i3 s))).val, 0, 1024 * h.val]) (he : e = ringDev c 7)
    (hc : -(i3 s) = i ∧ s.val = r ∧ num (.k h s) = n := by decide) :
    env X K ⊢ iprop(tick (.k h s) c -∗ spos (2, h) r c -∗ wG X c i h fullShare.right -∗ owe n c
      -∗ ((fly (.k h s) c ∗ owe (n + 1) c) -∗ WP c k Q) -∗ WP c (gSend o ho hw e (smKs h) (smKr h s) k) Q) := by
  obtain ⟨rfl, rfl, rfl⟩ := hc
  subst eo
  exact any_send X K c (.k h s) he rfl rfl rfl
    (congrArg (fun m => owned (ringDev c 7 : Thread nD τ) m fullShare) (mD_tgt_k h s c))
    (congrArg₂ (fun m v => owns (ringDev c 7 : Thread nD τ) m fullShare v) (mD_tgt_k h s c) (vD_tgt X (.k h s) c)) (amountG (rel c (-(i3 s))) h)

theorem cWait_full {k : Pg F} {Q : PUnit → sProp 𝕄} (h : Fin 2) (s : Fin 4) (i j : Fin 8) (r : ℕ) {n : ℕ}
    {o : Fin 3 → Nat} {ho : ∀ a, o a + S1x256x1024.size a ≤ S8x256x2048.size a} {hw : (mGo o ho).view.WordExact}
    (hc : i4 s = i ∧ i4 s + 1 = j ∧ s.val + 1 = r ∧ num (.c h s) < n := by decide) :
    env X K ⊢ iprop(fly (.c h s) c -∗ owe n c
      -∗ ((wG X c i h fullShare.left ∗ spos (1, h) r c ∗ wG X c j h fullShare ∗ zr (.c h s) c ∗ owe n c) -∗ WP c k Q)
      -∗ WP c (gWait o ho hw (smCs h) (smCr h s) k) Q) := by
  obtain ⟨rfl, rfl, rfl, hn⟩ := hc
  exact any_wait X K c (.c h s) n hn rfl rfl rfl rfl

theorem cWait_wp {k : Pg F} {Q : PUnit → sProp 𝕄} (h : Fin 2) (s : Fin 4) (i j : Fin 8) (r : ℕ) {n : ℕ}
    {o : Fin 3 → Nat} {ho : ∀ a, o a + S1x256x1024.size a ≤ S8x256x2048.size a} {hw : (mGo o ho).view.WordExact}
    (hc : i4 s = i ∧ i4 s + 1 = j ∧ s.val + 1 = r ∧ num (.c h s) < n := by decide) :
    env X K ⊢ iprop(fly (.c h s) c -∗ owe n c
      -∗ ((wG X c i h fullShare.left ∗ spos (1, h) r c ∗ (wG X c j h fullShare.left ∗ wG X c j h fullShare.right) ∗ zr (.c h s) c ∗ owe n c) -∗ WP c k Q)
      -∗ WP c (gWait o ho hw (smCs h) (smCr h s) k) Q) := by
  iintro #He Hf HO Hk
  iapply (cWait_full X K c h s i j r hc) $$ He Hf HO
  iintro ⟨Hs, Hp, Hd, Hz, HO⟩
  iapply Hk
  isplitl [Hs]; · iexact Hs
  isplitl [Hp]; · iexact Hp
  isplitl [Hd]; · iapply (wG_halves X c j h); iexact Hd
  isplitl [Hz]; · iexact Hz
  iexact HO

theorem kWait_full {k : Pg F} {Q : PUnit → sProp 𝕄} (h : Fin 2) (s : Fin 3) (i j : Fin 8) (r : ℕ) {n : ℕ}
    {o : Fin 3 → Nat} {ho : ∀ a, o a + S1x256x1024.size a ≤ S8x256x2048.size a} {hw : (mGo o ho).view.WordExact}
    (hc : -(i3 s) = i ∧ -(i3 s) - 1 = j ∧ s.val + 1 = r ∧ num (.k h s) < n := by decide) :
    env X K ⊢ iprop(fly (.k h s) c -∗ owe n c
      -∗ ((wG X c i h fullShare.right ∗ spos (2, h) r c ∗ wG X c j h fullShare ∗ zr (.k h s) c ∗ owe n c) -∗ WP c k Q)
      -∗ WP c (gWait o ho hw (smKs h) (smKr h s) k) Q) := by
  obtain ⟨rfl, rfl, rfl, hn⟩ := hc
  exact any_wait X K c (.k h s) n hn rfl rfl rfl rfl

theorem kWait_wp {k : Pg F} {Q : PUnit → sProp 𝕄} (h : Fin 2) (s : Fin 3) (i j : Fin 8) (r : ℕ) {n : ℕ}
    {o : Fin 3 → Nat} {ho : ∀ a, o a + S1x256x1024.size a ≤ S8x256x2048.size a} {hw : (mGo o ho).view.WordExact}
    (hc : -(i3 s) = i ∧ -(i3 s) - 1 = j ∧ s.val + 1 = r ∧ num (.k h s) < n := by decide) :
    env X K ⊢ iprop(fly (.k h s) c -∗ owe n c
      -∗ ((wG X c i h fullShare.right ∗ spos (2, h) r c ∗ (wG X c j h fullShare.left ∗ wG X c j h fullShare.right) ∗ zr (.k h s) c ∗ owe n c) -∗ WP c k Q)
      -∗ WP c (gWait o ho hw (smKs h) (smKr h s) k) Q) := by
  iintro #He Hf HO Hk
  iapply (kWait_full X K c h s i j r hc) $$ He Hf HO
  iintro ⟨Hs, Hp, Hd, Hz, HO⟩
  iapply Hk
  isplitl [Hs]; · iexact Hs
  isplitl [Hp]; · iexact Hp
  isplitl [Hd]; · iapply (wG_halves X c j h); iexact Hd
  isplitl [Hz]; · iexact Hz
  iexact HO

/-! ## A sender's cell done with -/

theorem send_close (p : Cp) : env X K ⊢ iprop(spos (sx p) (nS p) c -∗ |={Set.univ}=> semVal (sCell p c) 0) := by
  unfold spos
  simp only [sxSem_sx]
  iintro #He ⟨Hat, -⟩
  ihave #Hi := (env_send X K p c) $$ He
  iapply (Rounds.cell_close ER (Rd X) (Set.mem_univ (K (c, .inr (.inl (sx p))))) (fun h => h) (R := nS p) (duties_send_later X p c))
  isplitr; · iexact Hi
  iexact Hat

/-! ## The barrier -/

/-- One signal: its duty `d` on device `e`'s barrier, with what it hands over. -/
theorem bSignal_wp {k : Pg F} {Q : PUnit → sProp 𝕄} (d : Fin 4) (e : Dev nD) {n : ℕ} {e' : Dev nD} (he : e' = e)
    (hO : owedB (n + 1) c = owedB n c + tallyAt (bCell e) () 1) :
    env X K ⊢ iprop(dutyTok ER (bCell e) 0 d -∗ barPay d e -∗ oweB (n + 1) c -∗ (oweB n c -∗ WP c k Q) -∗ WP c (bSignal e' k) Q) := by
  subst he
  unfold oweB bSignal
  iintro #He Ht Hp ⟨%W, HO⟩ Hk
  ihave #Hi := (env_bar X K e') $$ He
  ihave #Hr := (env_reached X K e' (.inr (.inr ()))) $$ He
  iapply (Rounds.wp_signal 𝒱₀ ER (Rd X) (c : Thread nD τ) none (dst := (e' : Thread nD τ)) (κ := K (e', .inr (.inr ())))
      (d := d) (by rw [duties_bar]; exact Finset.mem_univ _) (show (1 : ℕ) = _ by decide) () (owedB n c) hO (W := W)) $$ [HO Ht Hp]
  · isplitr; · iexact Hi
    isplitl [HO]; · iexact HO
    isplitl [Ht]; · iexact Ht
    isplitl [Hp]; · rw [payload_bar]; iexact Hp
    iexact Hr
  iintro HO
  iapply Hk
  iexists W; iexact HO

/-- The wait for the four signals brings every window the device's copies will fill. -/
theorem bWait_wp {k : Pg F} {Q : PUnit → sProp 𝕄} :
    env X K ⊢ iprop(cred (tallyAt (bCell c) () 4) -∗ atPos ER (bCell c) 0 ∅ 0 -∗ owe 0 c
      -∗ ((bigSep Finset.univ (fun p => landing (F := F) p c) ∗ semVal (bCell c) 0 ∗ owe 0 c) -∗ WP c k Q) -∗ WP c (bWait k) Q) := by
  unfold owe bWait
  iintro #He Hc Hat ⟨%W, HO⟩ Hk
  ihave #Hi := (env_bar X K c) $$ He
  iapply (Rounds.wp_wait_rest_token 𝒱₀ ER (Rd X) (c : Thread nD τ) none (κ := K (c, .inr (.inr ())))
      (wpE_semWait_eq 𝒱₀ (c : Thread nD τ) none Set.univ) (Set.mem_univ _) () (O := owed 0 c) (W := W) (R := 0) (m := 0) (T := ∅)
      (by rw [expect_bar]; decide)) $$ [Hc HO Hat]
  · isplitr; · iexact Hi
    isplitl [Hc]; · iexact Hc
    isplitl [HO]; · iexact HO
    isplitr; · iapply (env_mayWait X K c (.reg barS) 0 (by decide)); iexact He
    iexact Hat
  iintro ⟨HO, Hat, -, Hpay⟩
  ihave Hp := (Entails.of_eq (rest_bar X c)) $$ Hpay
  imod (Rounds.cell_close ER (Rd X) (Set.mem_univ (K (c, .inr (.inr ())))) (fun h => h) (R := 0 + 1) (duties_bar_later X c)) $$ [Hat] with Hz
  · isplitr; · iexact Hi
    iexact Hat
  iapply Hk
  isplitl [Hp]; · iexact Hp
  isplitl [Hz]; · iexact Hz
  iexists _; iexact HO

end Cert.KernelIdeal.P
-- ==== Proof.KI.Head.lean ====
/-
  How the windows tile their buffers, and the operations the body begins with: fetching the device's rows of `dy`,
  casting them, clearing the running sums.
-/
module

public import proofs.«01_k».proof.Proof.KI.Remote
public import proofs.«01_k».proof.Proof.Tile
public import Idealize.ShloMosaic.Lib.VecWindow

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_univ_eq_bigSepL bigSepL_cons_cons bigSepL_singleton)
open scoped Idealize.SL.BI
open Idealize.SL.BI.BIBase Idealize.SL.BI.Laws Idealize.SL.ProofMode Idealize.SL.Sem
open Idealize.ShloMosaic.Rounds

/-! ## The tilings -/

/-- The two halves of the running sums' columns. -/
def tC : Tiles' rC where
  unit _ _ := rfl
  at_ x := ⟨(x 1).val / 1024, by have h : (x 1).val < 2048 := (x 1).isLt; omega⟩
  mem t x := by
    have h0 : (x 0).val < 256 := (x 0).isLt
    rw [Rect.mem_set_unit, Fin.ext_iff]
    constructor
    · intro h
      have h1 : 1024 * t.val ≤ (x 1).val ∧ (x 1).val < 1024 * t.val + 1024 := h 1
      show (x 1).val / 1024 = t.val
      omega
    · intro h a
      have h : (x 1).val / 1024 = t.val := h
      match a with
      | 0 => exact (show 0 ≤ (x 0).val ∧ (x 0).val < 0 + 256 by omega)
      | 1 => exact (show 1024 * t.val ≤ (x 1).val ∧ (x 1).val < 1024 * t.val + 1024 by omega)

/-- The two slots of the blocks of `W`. -/
def tW : Tiles' rW where
  unit _ _ := rfl
  at_ x := ⟨(x 0).val, show (x 0).val < 2 from (x 0).isLt⟩
  mem t x := by
    have h1 : (x 1).val < 1024 := (x 1).isLt
    have h2 : (x 2).val < 1024 := (x 2).isLt
    rw [Rect.mem_set_unit, Fin.ext_iff]
    constructor
    · intro h
      have h0 : t.val ≤ (x 0).val ∧ (x 0).val < t.val + 1 := h 0
      show (x 0).val = t.val
      omega
    · intro h a
      have h : (x 0).val = t.val := h
      match a with
      | 0 => exact (show t.val ≤ (x 0).val ∧ (x 0).val < t.val + 1 by omega)
      | 1 => exact (show 0 ≤ (x 1).val ∧ (x 1).val < 0 + 1024 by omega)
      | 2 => exact (show 0 ≤ (x 2).val ∧ (x 2).val < 0 + 1024 by omega)

/-- The two staging slots. -/
def tS : Tiles' rS where
  unit _ _ := rfl
  at_ x := ⟨(x 0).val, show (x 0).val < 2 from (x 0).isLt⟩
  mem t x := by
    have h1 : (x 1).val < 256 := (x 1).isLt
    have h2 : (x 2).val < 1024 := (x 2).isLt
    rw [Rect.mem_set_unit, Fin.ext_iff]
    constructor
    · intro h
      have h0 : t.val ≤ (x 0).val ∧ (x 0).val < t.val + 1 := h 0
      show (x 0).val = t.val
      omega
    · intro h a
      have h : (x 0).val = t.val := h
      match a with
      | 0 => exact (show t.val ≤ (x 0).val ∧ (x 0).val < t.val + 1 by omega)
      | 1 => exact (show 0 ≤ (x 1).val ∧ (x 1).val < 0 + 256 by omega)
      | 2 => exact (show 0 ≤ (x 2).val ∧ (x 2).val < 0 + 1024 by omega)

/-- The slots of the parts, two halves of four. -/
def tY : Tiles' (fun t : Fin 2 × Fin 4 => rY t.1 t.2) where
  unit _ _ := rfl
  at_ x := (⟨(x 0).val, show (x 0).val < 2 from (x 0).isLt⟩, ⟨(x 1).val, show (x 1).val < 4 from (x 1).isLt⟩)
  mem t x := by
    obtain ⟨t, u⟩ := t
    have h2 : (x 2).val < 256 := (x 2).isLt
    have h3 : (x 3).val < 1024 := (x 3).isLt
    rw [Rect.mem_set_unit, Prod.mk.injEq, Fin.ext_iff, Fin.ext_iff]
    constructor
    · intro h
      have h0 : t.val ≤ (x 0).val ∧ (x 0).val < t.val + 1 := h 0
      have h1 : u.val ≤ (x 1).val ∧ (x 1).val < u.val + 1 := h 1
      show (x 0).val = t.val ∧ (x 1).val = u.val
      omega
    · intro h a
      have h : (x 0).val = t.val ∧ (x 1).val = u.val := h
      match a with
      | 0 => exact (show t.val ≤ (x 0).val ∧ (x 0).val < t.val + 1 by omega)
      | 1 => exact (show u.val ≤ (x 1).val ∧ (x 1).val < u.val + 1 by omega)
      | 2 => exact (show 0 ≤ (x 2).val ∧ (x 2).val < 0 + 256 by omega)
      | 3 => exact (show 0 ≤ (x 3).val ∧ (x 3).val < 0 + 1024 by omega)

/-- The gathered chunks, eight of two halves. -/
def tG : Tiles' (fun t : Fin 8 × Fin 2 => rG t.1 t.2) where
  unit _ _ := rfl
  at_ x := (⟨(x 0).val, show (x 0).val < 8 from (x 0).isLt⟩, ⟨(x 2).val / 1024, by have h : (x 2).val < 2048 := (x 2).isLt; omega⟩)
  mem t x := by
    obtain ⟨t, u⟩ := t
    have h1 : (x 1).val < 256 := (x 1).isLt
    rw [Rect.mem_set_unit, Prod.mk.injEq, Fin.ext_iff, Fin.ext_iff]
    constructor
    · intro h
      have h0 : t.val ≤ (x 0).val ∧ (x 0).val < t.val + 1 := h 0
      have h2 : 1024 * u.val ≤ (x 2).val ∧ (x 2).val < 1024 * u.val + 1024 := h 2
      show (x 0).val = t.val ∧ (x 2).val / 1024 = u.val
      omega
    · intro h a
      have h : (x 0).val = t.val ∧ (x 2).val / 1024 = u.val := h
      match a with
      | 0 => exact (show t.val ≤ (x 0).val ∧ (x 0).val < t.val + 1 by omega)
      | 1 => exact (show 0 ≤ (x 1).val ∧ (x 1).val < 0 + 256 by omega)
      | 2 => exact (show 1024 * u.val ≤ (x 2).val ∧ (x 2).val < 1024 * u.val + 1024 by omega)

/-- The result's blocks, eight of two halves. -/
def tO : Tiles' (fun t : Fin 8 × Fin 2 => rO t.1 t.2) where
  unit _ _ := rfl
  at_ x := (⟨(x 0).val / 256, by have h : (x 0).val < 2048 := (x 0).isLt; omega⟩, ⟨(x 1).val / 1024, by have h : (x 1).val < 2048 := (x 1).isLt; omega⟩)
  mem t x := by
    obtain ⟨t, u⟩ := t
    rw [Rect.mem_set_unit, Prod.mk.injEq, Fin.ext_iff, Fin.ext_iff]
    constructor
    · intro h
      have h0 : 256 * t.val ≤ (x 0).val ∧ (x 0).val < 256 * t.val + 256 := h 0
      have h2 : 1024 * u.val ≤ (x 1).val ∧ (x 1).val < 1024 * u.val + 1024 := h 1
      show (x 0).val / 256 = t.val ∧ (x 1).val / 1024 = u.val
      omega
    · intro h a
      have h : (x 0).val / 256 = t.val ∧ (x 1).val / 1024 = u.val := h
      match a with
      | 0 => exact (show 256 * t.val ≤ (x 0).val ∧ (x 0).val < 256 * t.val + 256 by omega)
      | 1 => exact (show 1024 * u.val ≤ (x 1).val ∧ (x 1).val < 1024 * u.val + 1024 by omega)

/-! ## The first operations -/

variable {F : FTy → Type} [FloatOps F]

local notation "𝕄" => MT nD τ sig Unit (Elt F) ℕ UU ℕ

variable (X : Args F) (K : Dev nD × Cx → ℕ) (c : Dev nD)

abbrev ND : ℕ := (A3 : Memref sig .tc .vmem S256x8192 .f32).view.dmaCredit
/-- The device's rows of `dy` on their way. -/
def fetchingD : sProp 𝕄 :=
  iprop(Transfers.Flight EC (c : Thread nD τ) (.dma smD) () ND
      iprop(owns (c : Thread nD τ) A3 fullShare (DYF X c) ∗ owns (c : Thread nD τ) (m0 (pos c)) fullShare (DYF X c))
    ∗ (owns (c : Thread nD τ) (m0 (pos c)) fullShare (DYF X c) -∗ argD X c))

theorem dFetch_wp {k : Pg F} {Q : PUnit → sProp 𝕄} {o : Fin 2 → Nat} {ho : ∀ a, o a + S256x8192.size a ≤ S2048x8192.size a} (e : o = ![256 * (pos c).val, 0]) :
    argD X c ⊢ iprop(owned (c : Thread nD τ) A3 fullShare -∗ semVal ((c : Thread nD τ), .dma smD) 0 -∗ (fetchingD X c -∗ WP c k Q) -∗ WP c (dFetch o ho k) Q) := by
  subst e
  unfold argD fetchingD dFetch
  iintro HD Hd Hv Hk
  ihave H := (own_borrow (c : Thread nD τ) A0 fullShare (r := r0 (pos c)) (fun _ => rfl) (X.dy c)) $$ HD
  icases H with ⟨Hs, Hb⟩
  iapply (local_copy c (src := m0 (pos c)) (dst := A3) (M := ND) rfl (View.dmaCredit_pos _ (by decide))) $$ Hs Hd Hv
  iintro Hf
  iapply Hk
  isplitl [Hf]; · iexact Hf
  iexact Hb

theorem dWait_wp {k : Pg F} {Q : PUnit → sProp 𝕄} {o : Fin 2 → Nat} {ho : ∀ a, o a + S256x8192.size a ≤ S2048x8192.size a} {n : ℕ} (e : o = ![256 * (pos c).val, 0]) :
    env X K ⊢ iprop(fetchingD X c -∗ owe n c
      -∗ ((owns (c : Thread nD τ) A3 fullShare (DYF X c) ∗ semVal ((c : Thread nD τ), .dma smD) 0 ∗ argD X c ∗ owe n c) -∗ WP c k Q) -∗ WP c (dWait o ho k) Q) := by
  subst e
  unfold fetchingD dWait
  iintro #He ⟨Hf, Hb⟩ HO Hk
  iapply (local_wait X K c (src := m0 (pos c)) (dst := A3) (M := ND) lv_D rfl) $$ He Hf HO
  iintro ⟨⟨Hd, Hs⟩, Hv, HO⟩
  iapply Hk
  isplitl [Hd]; · iexact Hd
  isplitl [Hv]; · iexact Hv
  isplitl [Hb Hs]
  · iapply Hb; iexact Hs
  iexact HO

/-- The two running sums, cleared, as the halves of their buffer. -/
theorem clear_halves : (owns (c : Thread nD τ) A6 fullShare (Z0 (F := F)) : sProp 𝕄) ⊢ iprop(sumC c 0 (Z 0) ∗ sumC c 1 (Z 1)) := by
  refine (owns_tiles tC (c : Thread nD τ) A6 fullShare Z0).trans (Entails.of_eq ?_)
  rw [bigSep_univ_eq_bigSepL [(0 : Fin 2), 1] (by decide) (by decide), bigSepL_cons_cons, bigSepL_singleton]
  rfl

theorem prep_wp {k : Pg F} {Q : PUnit → sProp 𝕄} :
    (owns (c : Thread nD τ) A3 fullShare (DYF X c) : sProp 𝕄) ⊢ iprop(owned (c : Thread nD τ) A4 fullShare -∗ owned (c : Thread nD τ) A6 fullShare
      -∗ ((owned (c : Thread nD τ) A3 fullShare ∗ rowsD X c ∗ sumC c 0 (Z 0) ∗ sumC c 1 (Z 1)) -∗ WP c k Q) -∗ WP c (prep k) Q) := by
  unfold prep
  iintro H3 H4 H6 Hk
  ihave H4' := (show owned (c : Thread nD τ) A4 fullShare ⊢ iprop(∃ V, owns (c : Thread nD τ) A4 fullShare V) from .rfl) $$ H4
  icases H4' with ⟨%V4, H4⟩
  ihave H6' := (show owned (c : Thread nD τ) A6 fullShare ⊢ iprop(∃ V, owns (c : Thread nD τ) A6 fullShare V) from .rfl) $$ H6
  icases H6' with ⟨%V6, H6⟩
  iapply (own_load 𝒱₀ (c : Thread nD τ) none) $$ H3
  iintro H3
  iapply (own_load 𝒱₀ (c : Thread nD τ) none) $$ H4
  iintro H4
  iapply (own_store 𝒱₀ (c : Thread nD τ) none) $$ H4
  iintro %Y4 %h4 H4
  iapply (own_load 𝒱₀ (c : Thread nD τ) none) $$ H6
  iintro H6
  iapply (own_store 𝒱₀ (c : Thread nD τ) none) $$ H6
  iintro %Y6 %h6 H6
  have e4 : Y4 = DY X c := by
    funext j
    have := h4 j
    rw [Rect.emb_unit_full] at this
    rw [this]
    unfold DY
    exact congrFun (congrArg k0_pay1 (funext fun j => by rw [Rect.emb_unit_full])) j
  have e6 : Y6 = Z0 := by
    funext j
    have := h6 j
    rw [Rect.emb_unit_full] at this
    exact this
  subst e4 e6
  iapply Hk
  isplitl [H3]; · iapply (owned_intro (c : Thread nD τ) A3 fullShare _); iexact H3
  isplitl [H4]; · unfold rowsD; iexact H4
  iapply (clear_halves c); iexact H6

end Cert.KernelIdeal.P
-- ==== Proof.KI.Body.lean ====
/-
  The body, run of operations by run of operations: what each part of it starts from and what it leaves.
-/
module

public import proofs.«01_k».proof.Proof.KI.Head

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_univ_eq_bigSepL bigSepL_cons_cons bigSepL_singleton)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (K : Dev nD × Cx → ℕ) (c : Dev nD)

omit [FloatOps F] in
/-- A local cell of the device's at zero. -/
def zl (q : DmaSem sig) : sProp 𝕄 := semVal ((c : Thread nD τ), .dma q) 0

omit [FloatOps F] in
/-- The right to one of the four barrier signals, and what it hands over. -/
def sig4 (d : Fin 4) (e : Dev nD) : sProp 𝕄 := iprop(dutyTok ER (bCell e) 0 d ∗ barPay (F := F) d e)

/-- The sums the body arrives at are the ones named. -/
theorem DOT0 : ACC X c 7 (ACC X c 6 (ACC X c 5 (ACC X c 4 (ACC X c 3 (ACC X c 2 (ACC X c 1 (ACC X c 0 (Z 0)))))))) = DOT X c 0 := rfl
theorem DOT1 : ACC X c 15 (ACC X c 14 (ACC X c 13 (ACC X c 12 (ACC X c 11 (ACC X c 10 (ACC X c 9 (ACC X c 8 (Z 1)))))))) = DOT X c 1 := rfl
theorem RED_eq (h : Fin 2) : ADD (ADD (ADD (DOT X c h) (YV X c 1 h)) (YV X c 2 h)) (YV X c 3 h) = RED X c h := rfl

/-- The fetches and the barrier: from the arguments and the empty buffers to the cast rows, the cleared sums, block 0 on
    its way, and every window the device's copies will fill. -/
theorem seg1_wp {k : Pg F} {Q : PUnit → sProp 𝕄} :
    env X K ⊢ iprop((argD X c ∗ owned (c : Thread nD τ) A3 fullShare ∗ zl c smD ∗ slotW c 0 ∗ argW X c
        ∗ (sig4 0 (yDev c 3) ∗ sig4 3 (yDev c 1) ∗ sig4 2 (ringDev c 1) ∗ sig4 1 (ringDev c 7))
        ∗ oweB 4 c ∗ cred (tallyAt (bCell c) () 4) ∗ atPos ER (bCell c) 0 ∅ 0
        ∗ owned (c : Thread nD τ) A4 fullShare ∗ owned (c : Thread nD τ) A6 fullShare)
      -∗ ((argD X c ∗ owned (c : Thread nD τ) A3 fullShare ∗ zl c smD ∗ fetching X c 0 ∗ rowsD X c ∗ sumC c 0 (Z 0) ∗ sumC c 1 (Z 1)
        ∗ bigSep Finset.univ (fun p => landing (F := F) p c) ∗ semVal (bCell c) 0 ∗ owe 0 c) -∗ WP c k Q)
      -∗ WP c (seg1 c k) Q) := by
  unfold seg1 sig4 zl
  iintro #He ⟨HD, H3, HvD, Hw, HW, ⟨⟨Ht0, Hp0⟩, ⟨Ht3, Hp3⟩, ⟨Ht2, Hp2⟩, Ht1, Hp1⟩, HO, Hc, Hat, H4, H6⟩ Hk
  iapply (dFetch_wp X c (off1_eq c)) $$ HD H3 HvD
  iintro HfD
  iapply (wFetch_wp X c 0 0) $$ Hw HW
  iintro Hf
  iapply (bSignal_wp X K c 0 (yDev c 3) (n := 3) (dev1_eq c) rfl) $$ He Ht0 Hp0 HO
  iintro HO
  iapply (bSignal_wp X K c 3 (yDev c 1) (n := 2) (dev2_eq c) rfl) $$ He Ht3 Hp3 HO
  iintro HO
  iapply (bSignal_wp X K c 2 (ringDev c 1) (n := 1) (dev3_eq c) rfl) $$ He Ht2 Hp2 HO
  iintro HO
  iapply (bSignal_wp X K c 1 (ringDev c 7) (n := 0) (dev4_eq c) rfl) $$ He Ht1 Hp1 HO
  iintro HO
  iapply (bWait_wp X K c) $$ He Hc Hat [HO]
  · unfold owe; unfold oweB; iexact HO
  iintro ⟨Hl, Hz, HO⟩
  iapply (dWait_wp X K c (off1_eq c)) $$ He HfD HO
  iintro ⟨H3, HvD, HD, HO⟩
  iapply (prep_wp X c) $$ H3 H4 H6
  iintro ⟨H3, Hr, Ha0, Ha1⟩
  iapply Hk
  isplitl [HD]; · iexact HD
  isplitl [H3]; · iexact H3
  isplitl [HvD]; · iexact HvD
  isplitl [Hf]; · iexact Hf
  isplitl [Hr]; · iexact Hr
  isplitl [Ha0]; · iexact Ha0
  isplitl [Ha1]; · iexact Ha1
  isplitl [Hl]; · iexact Hl
  isplitl [Hz]; · iexact Hz
  iexact HO

/-- The first half's product, cast into slot 0. -/
theorem seg2_wp {k : Pg F} {Q : PUnit → sProp 𝕄} {n : ℕ} :
    env X K ⊢ iprop((fetching X c 0 ∗ slotW c 1 ∗ rowsD X c ∗ sumC c 0 (Z 0) ∗ owe n c ∗ doneY c 0 0)
      -∗ ((fetching X c 8 ∗ slotW c 1 ∗ rowsD X c ∗ sumC c 0 (DOT X c 0) ∗ owe n c ∗ wY X c 0 0 fullShare.left ∗ wY X c 0 0 fullShare.right) -∗ WP c k Q)
      -∗ WP c (seg2 k) Q) := by
  unfold seg2
  iintro #He ⟨Hf, Hw, Hr, Ha, HO, Hy⟩ Hk
  iapply (dot_wp X K c 0 1 0 1 0 _) $$ He Hf Hw Hr Ha HO
  iintro ⟨Hf, Hw, Hr, Ha, HO⟩
  iapply (dot_wp X K c 1 2 1 0 0 _) $$ He Hf Hw Hr Ha HO
  iintro ⟨Hf, Hw, Hr, Ha, HO⟩
  iapply (dot_wp X K c 2 3 0 1 0 _) $$ He Hf Hw Hr Ha HO
  iintro ⟨Hf, Hw, Hr, Ha, HO⟩
  iapply (dot_wp X K c 3 4 1 0 0 _) $$ He Hf Hw Hr Ha HO
  iintro ⟨Hf, Hw, Hr, Ha, HO⟩
  iapply (dot_wp X K c 4 5 0 1 0 _) $$ He Hf Hw Hr Ha HO
  iintro ⟨Hf, Hw, Hr, Ha, HO⟩
  iapply (dot_wp X K c 5 6 1 0 0 _) $$ He Hf Hw Hr Ha HO
  iintro ⟨Hf, Hw, Hr, Ha, HO⟩
  iapply (dot_wp X K c 6 7 0 1 0 _) $$ He Hf Hw Hr Ha HO
  iintro ⟨Hf, Hw, Hr, Ha, HO⟩
  iapply (dot_wp X K c 7 8 1 0 0 _) $$ He Hf Hw Hr Ha HO
  iintro ⟨Hf, Hw, Hr, Ha, HO⟩
  iapply (castY_wp X c 0 _ (DOT0 X c)) $$ Ha Hy
  iintro ⟨Ha, Hy⟩
  iapply Hk
  isplitl [Hf]; · iexact Hf
  isplitl [Hw]; · iexact Hw
  isplitl [Hr]; · iexact Hr
  isplitl [Ha]; · iexact Ha
  isplitl [HO]; · iexact HO
  iexact Hy

/-- The second half's product, the first half's parts going round `y` meanwhile; the first half finished. -/
theorem seg3_wp {k : Pg F} {Q : PUnit → sProp 𝕄} :
    env X K ⊢ iprop(((tick (.y 0 0) c ∗ tick (.y 0 1) c ∗ tick (.y 0 2) c) ∗ spos (0, 0) 0 c ∗ (wY X c 0 0 fullShare.left ∗ wY X c 0 0 fullShare.right)
        ∗ fetching X c 8 ∗ slotW c 1 ∗ rowsD X c ∗ sumC c 0 (DOT X c 0) ∗ sumC c 1 (Z 1) ∗ owe 0 c
        ∗ doneG c 0 0 ∗ outF c 0 0 ∗ zl c (smO 0) ∗ doneY c 0 1)
      -∗ (((zr (.y 0 0) c ∗ zr (.y 0 1) c ∗ zr (.y 0 2) c) ∗ spos (0, 0) 3 c ∗ (doneY c 0 0 ∗ doneY c 1 0 ∗ doneY c 2 0 ∗ doneY c 3 0)
        ∗ argW X c ∗ slotW c 0 ∗ slotW c 1 ∗ rowsD X c ∗ sumC c 1 (DOT X c 1) ∗ owe 3 c
        ∗ (wG X c 0 0 fullShare.left ∗ wG X c 0 0 fullShare.right) ∗ putOwn X c 0 ∗ (wY X c 0 1 fullShare.left ∗ wY X c 0 1 fullShare.right)) -∗ WP c k Q)
      -∗ WP c (seg3 c k) Q) := by
  unfold seg3 zl
  iintro #He ⟨⟨T0, T1, T2⟩, Hp, ⟨Y0, Y0'⟩, Hf, Hw, Hr, Ha, Hb, HO, Hg, Ho, Hv, Hy⟩ Hk
  iapply (ySend_wp X K c 0 0 (dev5_eq c)) $$ He T0 Hp Y0 HO
  iintro ⟨T0, HO⟩
  iapply (dot_wp X K c 8 9 0 1 1 _) $$ He Hf Hw Hr Hb HO
  iintro ⟨Hf, Hw, Hr, Hb, HO⟩
  iapply (dot_wp X K c 9 10 1 0 1 _) $$ He Hf Hw Hr Hb HO
  iintro ⟨Hf, Hw, Hr, Hb, HO⟩
  iapply (dot_wp X K c 10 11 0 1 1 _) $$ He Hf Hw Hr Hb HO
  iintro ⟨Hf, Hw, Hr, Hb, HO⟩
  iapply (yWait_wp X K c 0 0 0 1 1) $$ He T0 HO
  iintro ⟨Y0, Hp, ⟨Y1, Y1'⟩, T0, HO⟩
  iapply (ySend_wp X K c 0 1 (dev6_eq c)) $$ He T1 Hp Y1 HO
  iintro ⟨T1, HO⟩
  iapply (dot_wp X K c 11 12 1 0 1 _) $$ He Hf Hw Hr Hb HO
  iintro ⟨Hf, Hw, Hr, Hb, HO⟩
  iapply (dot_wp X K c 12 13 0 1 1 _) $$ He Hf Hw Hr Hb HO
  iintro ⟨Hf, Hw, Hr, Hb, HO⟩
  iapply (dot_wp X K c 13 14 1 0 1 _) $$ He Hf Hw Hr Hb HO
  iintro ⟨Hf, Hw, Hr, Hb, HO⟩
  iapply (accY_wp X c 0 1 _) $$ Y1' Ha
  iintro ⟨Y1', Ha⟩
  iapply (yWait_wp X K c 0 1 1 2 2) $$ He T1 HO
  iintro ⟨Y1, Hp, ⟨Y2, Y2'⟩, T1, HO⟩
  iapply (ySend_wp X K c 0 2 (dev7_eq c)) $$ He T2 Hp Y2 HO
  iintro ⟨T2, HO⟩
  iapply (dot_wp X K c 14 15 0 1 1 _) $$ He Hf Hw Hr Hb HO
  iintro ⟨Hf, Hw, Hr, Hb, HO⟩
  iapply (wWait_wp X K c 15) $$ He Hf HO
  iintro ⟨Hf, HW, HO⟩
  iapply (dotCore_wp X c 15 1 _) $$ Hf Hr Hb
  iintro ⟨Hw', Hr, Hb⟩
  iapply (accY_wp X c 0 2 _) $$ Y2' Ha
  iintro ⟨Y2', Ha⟩
  iapply (yWait_wp X K c 0 2 2 3 3) $$ He T2 HO
  iintro ⟨Y2, Hp, ⟨Y3, Y3'⟩, T2, HO⟩
  iapply (accY_wp X c 0 3 _) $$ Y3' Ha
  iintro ⟨Y3', Ha⟩
  iapply (castG_wp X c 0 (off2_eq c) _ (RED_eq X c 0)) $$ Ha Hg
  iintro ⟨Ha, Hg⟩
  iapply (oPut_wp X c 0 (off3_eq c)) $$ Ha Ho Hv
  iintro Hq
  iapply (castY_wp X c 1 _ (DOT1 X c)) $$ Hb Hy
  iintro ⟨Hb, Hy⟩
  ihave Y0 := (wY_done X c 0 0) $$ Y0 Y0'
  ihave Y1 := (wY_done X c 1 0) $$ Y1 Y1'
  ihave Y2 := (wY_done X c 2 0) $$ Y2 Y2'
  ihave Y3 := (wY_done X c 3 0) $$ Y3 Y3'
  iapply Hk
  isplitl [T0 T1 T2]
  · isplitl [T0]; · iexact T0
    isplitl [T1]; · iexact T1
    iexact T2
  isplitl [Hp]; · iexact Hp
  isplitl [Y0 Y1 Y2 Y3]
  · isplitl [Y0]; · iexact Y0
    isplitl [Y1]; · iexact Y1
    isplitl [Y2]; · iexact Y2
    iexact Y3
  isplitl [HW]; · iexact HW
  isplitl [Hw]; · iexact Hw
  isplitl [Hw']; · iexact Hw'
  isplitl [Hr]; · iexact Hr
  isplitl [Hb]; · iexact Hb
  isplitl [HO]; · iexact HO
  isplitl [Hg]; · iexact Hg
  isplitl [Hq]; · iexact Hq
  iexact Hy

/-- The first half's chunks going round the ring, the second half's parts going round `y`; the second half finished. -/
theorem seg4_wp {k : Pg F} {Q : PUnit → sProp 𝕄} :
    env X K ⊢ iprop((((tick (.c 0 0) c ∗ tick (.k 0 0) c ∗ tick (.y 1 0) c) ∗ (tick (.c 0 1) c ∗ tick (.k 0 1) c ∗ tick (.y 1 1) c)
          ∗ (tick (.c 0 2) c ∗ tick (.k 0 2) c ∗ tick (.y 1 2) c))
        ∗ (spos (1, 0) 0 c ∗ spos (2, 0) 0 c ∗ spos (0, 1) 0 c) ∗ (wG X c 0 0 fullShare.left ∗ wG X c 0 0 fullShare.right)
        ∗ (wY X c 0 1 fullShare.left ∗ wY X c 0 1 fullShare.right) ∗ sumC c 1 (DOT X c 1) ∗ owe 3 c ∗ slotS c 0 ∗ slotS c 1
        ∗ (outF c 1 0 ∗ outF c 7 0 ∗ outF c 2 0 ∗ outF c 6 0) ∗ doneG c 0 1 ∗ outF c 0 1 ∗ zl c (smO 1))
      -∗ ((((zr (.c 0 0) c ∗ zr (.k 0 0) c ∗ zr (.y 1 0) c) ∗ (zr (.c 0 1) c ∗ zr (.k 0 1) c ∗ zr (.y 1 1) c)
          ∗ (zr (.c 0 2) c ∗ zr (.k 0 2) c ∗ zr (.y 1 2) c))
        ∗ (spos (1, 0) 3 c ∗ spos (2, 0) 3 c ∗ spos (0, 1) 3 c) ∗ (doneG c 0 0 ∗ doneG c 1 0 ∗ doneG c 7 0 ∗ doneG c 2 0 ∗ doneG c 6 0)
        ∗ (wG X c 3 0 fullShare.left ∗ wG X c 3 0 fullShare.right) ∗ (wG X c 5 0 fullShare.left ∗ wG X c 5 0 fullShare.right)
        ∗ (doneY c 0 1 ∗ doneY c 1 1 ∗ doneY c 2 1 ∗ doneY c 3 1) ∗ owe 12 c ∗ putting X c 0 2 0 ∗ putting X c 1 6 0
        ∗ (outD X c 1 0 ∗ outD X c 7 0) ∗ (wG X c 0 1 fullShare.left ∗ wG X c 0 1 fullShare.right) ∗ putOwn X c 1) -∗ WP c k Q)
      -∗ WP c (seg4 c k) Q) := by
  unfold seg4 zl
  iintro #He ⟨⟨⟨C0, K0, T0⟩, ⟨C1, K1, T1⟩, C2, K2, T2⟩, ⟨Pc, Pk, Py⟩, ⟨G0, G0'⟩, ⟨Y0, Y0'⟩, Hb, HO, S0, S1, ⟨O1, O7, O2, O6⟩, Hg, Ho, Hv⟩ Hk
  iapply (cSend_wp X K c 0 0 (off4_eq c 0) (dev8_eq c)) $$ He C0 Pc G0 HO
  iintro ⟨C0, HO⟩
  iapply (kSend_wp X K c 0 0 (off5_eq c 0) (dev9_eq c)) $$ He K0 Pk G0' HO
  iintro ⟨K0, HO⟩
  iapply (ySend_wp X K c 1 0 (dev10_eq c)) $$ He T0 Py Y0 HO
  iintro ⟨T0, HO⟩
  iapply (cWait_wp X K c 0 0 0 1 1) $$ He C0 HO
  iintro ⟨G0, Pc, ⟨G1, G1'⟩, C0, HO⟩
  iapply (kWait_wp X K c 0 0 0 7 1) $$ He K0 HO
  iintro ⟨G0', Pk, ⟨G7, G7'⟩, K0, HO⟩
  iapply (yWait_wp X K c 1 0 0 1 1) $$ He T0 HO
  iintro ⟨Y0, Py, ⟨Y1, Y1'⟩, T0, HO⟩
  ihave G0 := (wG_done X c 0 0) $$ G0 G0'
  ihave Y0 := (wY_done X c 0 1) $$ Y0 Y0'
  iapply (cSend_wp X K c 0 1 (off4_eq c 1) (dev11_eq c)) $$ He C1 Pc G1 HO
  iintro ⟨C1, HO⟩
  iapply (kSend_wp X K c 0 1 (off5_eq c 1) (dev12_eq c)) $$ He K1 Pk G7' HO
  iintro ⟨K1, HO⟩
  iapply (ySend_wp X K c 1 1 (dev13_eq c)) $$ He T1 Py Y1 HO
  iintro ⟨T1, HO⟩
  iapply (put_wp X c 0 0 1 _ (off6_eq c 0) (off7_eq c 0)) $$ G1' S0 O1
  iintro ⟨G1', S0⟩
  iapply (put_wp X c 1 0 7 _ (off8_eq c 0) (off9_eq c 0)) $$ G7 S1 O7
  iintro ⟨G7, S1⟩
  iapply (accY_wp X c 1 1 _) $$ Y1' Hb
  iintro ⟨Y1', Hb⟩
  iapply (cWait_wp X K c 0 1 1 2 2) $$ He C1 HO
  iintro ⟨G1, Pc, ⟨G2, G2'⟩, C1, HO⟩
  iapply (kWait_wp X K c 0 1 7 6 2) $$ He K1 HO
  iintro ⟨G7', Pk, ⟨G6, G6'⟩, K1, HO⟩
  iapply (yWait_wp X K c 1 1 1 2 2) $$ He T1 HO
  iintro ⟨Y1, Py, ⟨Y2, Y2'⟩, T1, HO⟩
  ihave G1 := (wG_done X c 1 0) $$ G1 G1'
  ihave G7 := (wG_done X c 7 0) $$ G7 G7'
  ihave Y1 := (wY_done X c 1 1) $$ Y1 Y1'
  iapply (cSend_wp X K c 0 2 (off4_eq c 2) (dev14_eq c)) $$ He C2 Pc G2 HO
  iintro ⟨C2, HO⟩
  iapply (kSend_wp X K c 0 2 (off5_eq c 2) (dev15_eq c)) $$ He K2 Pk G6' HO
  iintro ⟨K2, HO⟩
  iapply (ySend_wp X K c 1 2 (dev16_eq c)) $$ He T2 Py Y2 HO
  iintro ⟨T2, HO⟩
  iapply (putWait_wp X K c 0 0 1 _ (off7_eq c 0)) $$ He S0 HO
  iintro ⟨O1, S0, HO⟩
  iapply (put_wp X c 0 0 2 _ (off6_eq c 1) (off7_eq c 1)) $$ G2' S0 O2
  iintro ⟨G2', S0⟩
  iapply (putWait_wp X K c 1 0 7 _ (off9_eq c 0)) $$ He S1 HO
  iintro ⟨O7, S1, HO⟩
  iapply (put_wp X c 1 0 6 _ (off8_eq c 1) (off9_eq c 1)) $$ G6 S1 O6
  iintro ⟨G6, S1⟩
  iapply (accY_wp X c 1 2 _) $$ Y2' Hb
  iintro ⟨Y2', Hb⟩
  iapply (cWait_wp X K c 0 2 2 3 3) $$ He C2 HO
  iintro ⟨G2, Pc, G3, C2, HO⟩
  iapply (kWait_wp X K c 0 2 6 5 3) $$ He K2 HO
  iintro ⟨G6', Pk, G5, K2, HO⟩
  iapply (yWait_wp X K c 1 2 2 3 3) $$ He T2 HO
  iintro ⟨Y2, Py, ⟨Y3, Y3'⟩, T2, HO⟩
  ihave G2 := (wG_done X c 2 0) $$ G2 G2'
  ihave G6 := (wG_done X c 6 0) $$ G6 G6'
  ihave Y2 := (wY_done X c 2 1) $$ Y2 Y2'
  iapply (accY_wp X c 1 3 _) $$ Y3' Hb
  iintro ⟨Y3', Hb⟩
  ihave Y3 := (wY_done X c 3 1) $$ Y3 Y3'
  iapply (castG_wp X c 1 (off10_eq c) _ (RED_eq X c 1)) $$ Hb Hg
  iintro ⟨Hb, Hg⟩
  iapply (oPut_wp X c 1 (off11_eq c)) $$ Hb Ho Hv
  iintro Hq
  iapply Hk
  isplitl [C0 K0 T0 C1 K1 T1 C2 K2 T2]
  · isplitl [C0 K0 T0]
    · isplitl [C0]; · iexact C0
      isplitl [K0]; · iexact K0
      iexact T0
    isplitl [C1 K1 T1]
    · isplitl [C1]; · iexact C1
      isplitl [K1]; · iexact K1
      iexact T1
    isplitl [C2]; · iexact C2
    isplitl [K2]; · iexact K2
    iexact T2
  isplitl [Pc Pk Py]
  · isplitl [Pc]; · iexact Pc
    isplitl [Pk]; · iexact Pk
    iexact Py
  isplitl [G0 G1 G7 G2 G6]
  · isplitl [G0]; · iexact G0
    isplitl [G1]; · iexact G1
    isplitl [G7]; · iexact G7
    isplitl [G2]; · iexact G2
    iexact G6
  isplitl [G3]; · iexact G3
  isplitl [G5]; · iexact G5
  isplitl [Y0 Y1 Y2 Y3]
  · isplitl [Y0]; · iexact Y0
    isplitl [Y1]; · iexact Y1
    isplitl [Y2]; · iexact Y2
    iexact Y3
  isplitl [HO]; · iexact HO
  isplitl [S0]; · iexact S0
  isplitl [S1]; · iexact S1
  isplitl [O1 O7]
  · isplitl [O1]; · iexact O1
    iexact O7
  isplitl [Hg]; · iexact Hg
  iexact Hq

/-- The second half's chunks going round the ring, every block of the result put. -/
theorem seg5_wp {k : Pg F} {Q : PUnit → sProp 𝕄} :
    env X K ⊢ iprop((((tick (.c 1 0) c ∗ tick (.k 1 0) c ∗ tick (.c 0 3) c) ∗ (tick (.c 1 1) c ∗ tick (.k 1 1) c)
          ∗ (tick (.c 1 2) c ∗ tick (.k 1 2) c) ∗ tick (.c 1 3) c)
        ∗ (spos (1, 0) 3 c ∗ spos (1, 1) 0 c ∗ spos (2, 1) 0 c)
        ∗ (wG X c 3 0 fullShare.left ∗ wG X c 3 0 fullShare.right) ∗ (wG X c 5 0 fullShare.left ∗ wG X c 5 0 fullShare.right)
        ∗ (wG X c 0 1 fullShare.left ∗ wG X c 0 1 fullShare.right) ∗ owe 12 c ∗ putting X c 0 2 0 ∗ putting X c 1 6 0 ∗ putOwn X c 0 ∗ putOwn X c 1
        ∗ (outF c 3 0 ∗ outF c 4 0 ∗ outF c 5 0)
        ∗ (outF c 1 1 ∗ outF c 2 1 ∗ outF c 3 1 ∗ outF c 4 1 ∗ outF c 5 1 ∗ outF c 6 1 ∗ outF c 7 1))
      -∗ ((((zr (.c 1 0) c ∗ zr (.k 1 0) c ∗ zr (.c 0 3) c) ∗ (zr (.c 1 1) c ∗ zr (.k 1 1) c)
          ∗ (zr (.c 1 2) c ∗ zr (.k 1 2) c) ∗ zr (.c 1 3) c)
        ∗ (spos (1, 0) 4 c ∗ spos (1, 1) 4 c ∗ spos (2, 1) 3 c)
        ∗ (doneG c 3 0 ∗ doneG c 4 0 ∗ doneG c 5 0)
        ∗ (doneG c 0 1 ∗ doneG c 1 1 ∗ doneG c 2 1 ∗ doneG c 3 1 ∗ doneG c 4 1 ∗ doneG c 5 1 ∗ doneG c 6 1 ∗ doneG c 7 1)
        ∗ owe 20 c ∗ slotS c 0 ∗ slotS c 1
        ∗ (sumC c 0 (RED X c 0) ∗ sumC c 1 (RED X c 1) ∗ zl c (smO 0) ∗ zl c (smO 1))
        ∗ (outD X c 0 0 ∗ outD X c 2 0 ∗ outD X c 3 0 ∗ outD X c 4 0 ∗ outD X c 5 0 ∗ outD X c 6 0)
        ∗ (outD X c 0 1 ∗ outD X c 1 1 ∗ outD X c 2 1 ∗ outD X c 3 1 ∗ outD X c 4 1 ∗ outD X c 5 1 ∗ outD X c 6 1 ∗ outD X c 7 1)) -∗ WP c k Q)
      -∗ WP c (seg5 c k) Q) := by
  unfold seg5 zl
  iintro #He ⟨⟨⟨C0, K0, C3⟩, ⟨D1, K1⟩, ⟨D2, K2⟩, D3⟩, ⟨P0, Pc, Pk⟩, ⟨G3, G3'⟩, ⟨G5, G5'⟩, ⟨H0, H0'⟩, HO, S0, S1, Q0, Q1,
    ⟨O3, O4, O5⟩, U1, U2, U3, U4, U5, U6, U7⟩ Hk
  iapply (cSend_wp X K c 1 0 (off12_eq c 0) (dev17_eq c)) $$ He C0 Pc H0 HO
  iintro ⟨C0, HO⟩
  iapply (kSend_wp X K c 1 0 (off13_eq c 0) (dev18_eq c)) $$ He K0 Pk H0' HO
  iintro ⟨K0, HO⟩
  iapply (cSend_wp X K c 0 3 (off4_eq c 3) (dev19_eq c)) $$ He C3 P0 G3 HO
  iintro ⟨C3, HO⟩
  iapply (putWait_wp X K c 0 0 2 _ (off7_eq c 1)) $$ He S0 HO
  iintro ⟨O2, S0, HO⟩
  iapply (put_wp X c 0 0 3 _ (off6_eq c 2) (off7_eq c 2)) $$ G3' S0 O3
  iintro ⟨G3', S0⟩
  iapply (putWait_wp X K c 1 0 6 _ (off9_eq c 1)) $$ He S1 HO
  iintro ⟨O6, S1, HO⟩
  iapply (put_wp X c 1 0 5 _ (off8_eq c 2) (off9_eq c 2)) $$ G5 S1 O5
  iintro ⟨G5, S1⟩
  ihave G5 := (wG_done X c 5 0) $$ G5 G5'
  iapply (cWait_wp X K c 1 0 0 1 1) $$ He C0 HO
  iintro ⟨H0, Pc, ⟨H1, H1'⟩, C0, HO⟩
  iapply (kWait_wp X K c 1 0 0 7 1) $$ He K0 HO
  iintro ⟨H0', Pk, ⟨H7, H7'⟩, K0, HO⟩
  ihave H0 := (wG_done X c 0 1) $$ H0 H0'
  iapply (cWait_wp X K c 0 3 3 4 4) $$ He C3 HO
  iintro ⟨G3, P0, ⟨G4, G4'⟩, C3, HO⟩
  ihave G3 := (wG_done X c 3 0) $$ G3 G3'
  iapply (cSend_wp X K c 1 1 (off12_eq c 1) (dev20_eq c)) $$ He D1 Pc H1 HO
  iintro ⟨D1, HO⟩
  iapply (kSend_wp X K c 1 1 (off13_eq c 1) (dev21_eq c)) $$ He K1 Pk H7' HO
  iintro ⟨K1, HO⟩
  iapply (putWait_wp X K c 0 0 3 _ (off7_eq c 2)) $$ He S0 HO
  iintro ⟨O3, S0, HO⟩
  iapply (put_wp X c 0 0 4 _ (off6_eq c 3) (off7_eq c 3)) $$ G4' S0 O4
  iintro ⟨G4', S0⟩
  ihave G4 := (wG_done X c 4 0) $$ G4 G4'
  iapply (putWait_wp X K c 1 0 5 _ (off9_eq c 2)) $$ He S1 HO
  iintro ⟨O5, S1, HO⟩
  iapply (put_wp X c 1 1 1 _ (off14_eq c 0) (off15_eq c 0)) $$ H1' S1 U1
  iintro ⟨H1', S1⟩
  iapply (putWait_wp X K c 0 0 4 _ (off7_eq c 3)) $$ He S0 HO
  iintro ⟨O4, S0, HO⟩
  iapply (put_wp X c 0 1 7 _ (off16_eq c 0) (off17_eq c 0)) $$ H7 S0 U7
  iintro ⟨H7, S0⟩
  iapply (cWait_wp X K c 1 1 1 2 2) $$ He D1 HO
  iintro ⟨H1, Pc, ⟨H2, H2'⟩, D1, HO⟩
  iapply (kWait_wp X K c 1 1 7 6 2) $$ He K1 HO
  iintro ⟨H7', Pk, ⟨H6, H6'⟩, K1, HO⟩
  ihave H1 := (wG_done X c 1 1) $$ H1 H1'
  ihave H7 := (wG_done X c 7 1) $$ H7 H7'
  iapply (cSend_wp X K c 1 2 (off12_eq c 2) (dev22_eq c)) $$ He D2 Pc H2 HO
  iintro ⟨D2, HO⟩
  iapply (kSend_wp X K c 1 2 (off13_eq c 2) (dev23_eq c)) $$ He K2 Pk H6' HO
  iintro ⟨K2, HO⟩
  iapply (putWait_wp X K c 1 1 1 _ (off15_eq c 0)) $$ He S1 HO
  iintro ⟨U1, S1, HO⟩
  iapply (put_wp X c 1 1 2 _ (off14_eq c 1) (off15_eq c 1)) $$ H2' S1 U2
  iintro ⟨H2', S1⟩
  iapply (putWait_wp X K c 0 1 7 _ (off17_eq c 0)) $$ He S0 HO
  iintro ⟨U7, S0, HO⟩
  iapply (put_wp X c 0 1 6 _ (off16_eq c 1) (off17_eq c 1)) $$ H6 S0 U6
  iintro ⟨H6, S0⟩
  iapply (cWait_wp X K c 1 2 2 3 3) $$ He D2 HO
  iintro ⟨H2, Pc, ⟨H3, H3'⟩, D2, HO⟩
  iapply (kWait_wp X K c 1 2 6 5 3) $$ He K2 HO
  iintro ⟨H6', Pk, ⟨H5, H5'⟩, K2, HO⟩
  ihave H2 := (wG_done X c 2 1) $$ H2 H2'
  ihave H6 := (wG_done X c 6 1) $$ H6 H6'
  iapply (cSend_wp X K c 1 3 (off12_eq c 3) (dev24_eq c)) $$ He D3 Pc H3 HO
  iintro ⟨D3, HO⟩
  iapply (putWait_wp X K c 1 1 2 _ (off15_eq c 1)) $$ He S1 HO
  iintro ⟨U2, S1, HO⟩
  iapply (put_wp X c 1 1 3 _ (off14_eq c 2) (off15_eq c 2)) $$ H3' S1 U3
  iintro ⟨H3', S1⟩
  iapply (putWait_wp X K c 0 1 6 _ (off17_eq c 1)) $$ He S0 HO
  iintro ⟨U6, S0, HO⟩
  iapply (put_wp X c 0 1 5 _ (off16_eq c 2) (off17_eq c 2)) $$ H5 S0 U5
  iintro ⟨H5, S0⟩
  iapply (cWait_wp X K c 1 3 3 4 4) $$ He D3 HO
  iintro ⟨H3, Pc, ⟨H4, H4'⟩, D3, HO⟩
  ihave H3 := (wG_done X c 3 1) $$ H3 H3'
  ihave H5 := (wG_done X c 5 1) $$ H5 H5'
  iapply (putWait_wp X K c 1 1 3 _ (off15_eq c 2)) $$ He S1 HO
  iintro ⟨U3, S1, HO⟩
  iapply (put_wp X c 1 1 4 _ (off14_eq c 3) (off15_eq c 3)) $$ H4' S1 U4
  iintro ⟨H4', S1⟩
  ihave H4 := (wG_done X c 4 1) $$ H4 H4'
  iapply (oWait_wp X K c 0 (off3_eq c)) $$ He Q0 HO
  iintro ⟨O0, A0, Z0, HO⟩
  iapply (oWait_wp X K c 1 (off11_eq c)) $$ He Q1 HO
  iintro ⟨U0, A1, Z1, HO⟩
  iapply (putWait_wp X K c 0 1 5 _ (off17_eq c 2)) $$ He S0 HO
  iintro ⟨U5, S0, HO⟩
  iapply (putWait_wp X K c 1 1 4 _ (off15_eq c 3)) $$ He S1 HO
  iintro ⟨U4, S1, HO⟩
  iapply Hk
  isplitl [C0 K0 C3 D1 K1 D2 K2 D3]
  · isplitl [C0 K0 C3]
    · isplitl [C0]; · iexact C0
      isplitl [K0]; · iexact K0
      iexact C3
    isplitl [D1 K1]
    · isplitl [D1]; · iexact D1
      iexact K1
    isplitl [D2 K2]
    · isplitl [D2]; · iexact D2
      iexact K2
    iexact D3
  isplitl [P0 Pc Pk]
  · isplitl [P0]; · iexact P0
    isplitl [Pc]; · iexact Pc
    iexact Pk
  isplitl [G3 G4 G5]
  · isplitl [G3]; · iexact G3
    isplitl [G4]; · iexact G4
    iexact G5
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [HO]; · iexact HO
  isplitl [S0]; · iexact S0
  isplitl [S1]; · iexact S1
  isplitl [A0 A1 Z0 Z1]
  · isplitl [A0]; · iexact A0
    isplitl [A1]; · iexact A1
    isplitl [Z0]; · iexact Z0
    iexact Z1
  isplitl [O0 O2 O3 O4 O5 O6]
  · isplitl [O0]; · iexact O0
    isplitl [O2]; · iexact O2
    isplitl [O3]; · iexact O3
    isplitl [O4]; · iexact O4
    isplitl [O5]; · iexact O5
    iexact O6
  isplitl [U0]; · iexact U0
  isplitl [U1]; · iexact U1
  isplitl [U2]; · iexact U2
  isplitl [U3]; · iexact U3
  isplitl [U4]; · iexact U4
  isplitl [U5]; · iexact U5
  isplitl [U6]; · iexact U6
  iexact U7

end Cert.KernelIdeal.P
-- ==== Proof.KI.Whole.lean ====
/-
  The whole body: what a device starts it with and what it holds at the end.
-/
module

public import proofs.«01_k».proof.Proof.KI.Body

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_sep' bigSep_mono bigSep_univ_eq_bigSepL bigSepL_cons_cons bigSepL_singleton)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families written out -/

omit [FloatOps F] in
theorem sep_copies (Φ : Cp → sProp 𝕄) : bigSep Finset.univ Φ =
    iprop(Φ (.y 0 0) ∗ Φ (.y 0 1) ∗ Φ (.y 0 2) ∗ Φ (.c 0 0) ∗ Φ (.k 0 0) ∗ Φ (.y 1 0) ∗ Φ (.c 0 1) ∗ Φ (.k 0 1) ∗ Φ (.y 1 1) ∗ Φ (.c 0 2) ∗ Φ (.k 0 2) ∗ Φ (.y 1 2)
      ∗ Φ (.c 1 0) ∗ Φ (.k 1 0) ∗ Φ (.c 0 3) ∗ Φ (.c 1 1) ∗ Φ (.k 1 1) ∗ Φ (.c 1 2) ∗ Φ (.k 1 2) ∗ Φ (.c 1 3)) :=
  bigSep_univ_eq_bigSepL order (by decide) order_nodup Φ
omit [FloatOps F] in
theorem sep_senders (Φ : Fin 3 × Fin 2 → sProp 𝕄) : bigSep Finset.univ Φ =
    iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ
omit [FloatOps F] in
theorem sep_parts (Φ : Fin 4 × Fin 2 → sProp 𝕄) : bigSep Finset.univ Φ =
    iprop(Φ (0, 0) ∗ Φ (1, 0) ∗ Φ (2, 0) ∗ Φ (3, 0) ∗ Φ (0, 1) ∗ Φ (1, 1) ∗ Φ (2, 1) ∗ Φ (3, 1)) :=
  bigSep_univ_eq_bigSepL [(0, 0), (1, 0), (2, 0), (3, 0), (0, 1), (1, 1), (2, 1), (3, 1)] (by decide) (by decide) Φ
omit [FloatOps F] in
theorem sep_chunks (Φ : Fin 8 × Fin 2 → sProp 𝕄) : bigSep Finset.univ Φ =
    iprop(Φ (0, 0) ∗ Φ (1, 0) ∗ Φ (2, 0) ∗ Φ (3, 0) ∗ Φ (4, 0) ∗ Φ (5, 0) ∗ Φ (6, 0) ∗ Φ (7, 0)
      ∗ Φ (0, 1) ∗ Φ (1, 1) ∗ Φ (2, 1) ∗ Φ (3, 1) ∗ Φ (4, 1) ∗ Φ (5, 1) ∗ Φ (6, 1) ∗ Φ (7, 1)) :=
  bigSep_univ_eq_bigSepL [(0, 0), (1, 0), (2, 0), (3, 0), (4, 0), (5, 0), (6, 0), (7, 0), (0, 1), (1, 1), (2, 1), (3, 1), (4, 1), (5, 1), (6, 1), (7, 1)]
    (by decide) (by decide) Φ

variable (X : Args F) (K : Dev nD × Cx → ℕ) (c : Dev nD)

/-! ## Start and end -/

omit [FloatOps F] in
/-- What a copy needs apart from the window it fills. -/
def pay (p : Cp) (c : Dev nD) : sProp 𝕄 :=
  iprop((dutyTok ER (sCell p c) (stp p) 0 ∗ dutyTok ER (rCell p (tgt p c)) 0 0) ∗ arrive p c)

omit [FloatOps F] in
theorem tick_intro (p : Cp) : iprop(pay (F := F) p c ∗ landing (F := F) p c) ⊢ tick (F := F) p c := by
  unfold pay tick ticket
  iintro ⟨⟨H1, H2⟩, H3⟩
  iframe
omit [FloatOps F] in
theorem ticks_intro : bigSep Finset.univ (fun p => pay (F := F) p c) ⊢ iprop(bigSep Finset.univ (fun p => landing (F := F) p c) -∗ bigSep Finset.univ (fun p => tick (F := F) p c)) := by
  refine wand_intro ?_
  rw [← bigSep_sep']
  exact bigSep_mono fun p _ => tick_intro c p

/-- What the body starts with. -/
def Pre : sProp 𝕄 :=
  iprop((argD X c ∗ argW X c) ∗ (owned (c : Thread nD τ) A3 fullShare ∗ owned (c : Thread nD τ) A4 fullShare ∗ owned (c : Thread nD τ) A6 fullShare)
    ∗ (slotW c 0 ∗ slotW c 1 ∗ slotS c 0 ∗ slotS c 1) ∗ (zl c smD ∗ zl c (smO 0) ∗ zl c (smO 1))
    ∗ (sig4 0 (yDev c 3) ∗ sig4 3 (yDev c 1) ∗ sig4 2 (ringDev c 1) ∗ sig4 1 (ringDev c 7))
    ∗ (oweB 4 c ∗ cred (tallyAt (bCell c) () 4) ∗ atPos ER (bCell c) 0 ∅ 0)
    ∗ (doneY c 0 0 ∗ doneY c 0 1 ∗ doneG c 0 0 ∗ doneG c 0 1)
    ∗ bigSep Finset.univ (fun t : Fin 8 × Fin 2 => outF c t.1 t.2)
    ∗ bigSep Finset.univ (fun p => pay (F := F) p c)
    ∗ bigSep Finset.univ (fun x => spos (F := F) x 0 c))

/-- What it ends with. -/
def Post : sProp 𝕄 :=
  iprop((argD X c ∗ argW X c) ∗ (owned (c : Thread nD τ) A3 fullShare ∗ owned (c : Thread nD τ) A4 fullShare ∗ sumC c 0 (RED X c 0) ∗ sumC c 1 (RED X c 1))
    ∗ (slotW c 0 ∗ slotW c 1 ∗ slotS c 0 ∗ slotS c 1) ∗ (zl c smD ∗ zl c (smO 0) ∗ zl c (smO 1))
    ∗ semVal (bCell c) 0 ∗ owe 20 c
    ∗ bigSep Finset.univ (fun t : Fin 4 × Fin 2 => doneY c t.1 t.2)
    ∗ bigSep Finset.univ (fun t : Fin 8 × Fin 2 => doneG c t.1 t.2)
    ∗ bigSep Finset.univ (fun t : Fin 8 × Fin 2 => outD X c t.1 t.2)
    ∗ bigSep Finset.univ (fun p => zr (F := F) p c)
    ∗ bigSep Finset.univ (fun x => zl (F := F) c (sxSem x)))

/-- A sender's cell whose rounds are over is the device's again. -/
theorem sender_close (x : Fin 3 × Fin 2) (n : ℕ) (p : Cp) (hx : sx p = x := by rfl) (hn : nS p = n := by rfl) :
    env X K ⊢ iprop(spos x n c -∗ |={Set.univ}=> zl c (sxSem x)) := by
  subst hx hn
  have h := send_close X K c p
  unfold zl
  rw [sxSem_sx]
  exact h

theorem body_wp {Q : PUnit → sProp 𝕄} :
    env X K ⊢ iprop(Pre X c -∗ (Post X c -∗ Q ⟨⟩) -∗ WP c (body c) Q) := by
  unfold Pre body
  rw [sep_chunks, sep_senders]
  iintro #He ⟨⟨HD, HW⟩, ⟨H3, H4, H6⟩, ⟨W0, W1, S0, S1⟩, ⟨ZD, ZO0, ZO1⟩, Hsig, ⟨HO, Hc, Hat⟩, ⟨Y00, Y01, G00, G01⟩,
    ⟨O0, O1, O2, O3, O4, O5, O6, O7, U0, U1, U2, U3, U4, U5, U6, U7⟩, Hpay, ⟨P00, P01, P10, P11, P20, P21⟩⟩ Hk
  iapply (seg1_wp X K c) $$ He [HD H3 ZD W0 HW Hsig HO Hc Hat H4 H6]
  · iframe
  iintro ⟨HD, H3, ZD, Hf, Hr, Ha, Hb, Hl, HzB, HO⟩
  ihave Ht := (ticks_intro c) $$ Hpay Hl
  ihave Ht := (Entails.of_eq (sep_copies fun p => tick (F := F) p c)) $$ Ht
  icases Ht with ⟨Ty00, Ty01, Ty02, Tc00, Tk00, Ty10, Tc01, Tk01, Ty11, Tc02, Tk02, Ty12, Tc10, Tk10, Tc03, Tc11, Tk11, Tc12, Tk12, Tc13⟩
  iapply (seg2_wp X K c) $$ He [Hf W1 Hr Ha HO Y00]
  · iframe
  iintro ⟨Hf, W1, Hr, Ha, HO, Y0⟩
  iapply (seg3_wp X K c) $$ He [Ty00 Ty01 Ty02 P00 Y0 Hf W1 Hr Ha Hb HO G00 O0 ZO0 Y01]
  · iframe
  iintro ⟨⟨Ty00, Ty01, Ty02⟩, P00, ⟨Y00, Y10, Y20, Y30⟩, HW, W0, W1, Hr, Hb, HO, G0, Q0, Y0⟩
  iapply (seg4_wp X K c) $$ He [Tc00 Tk00 Ty10 Tc01 Tk01 Ty11 Tc02 Tk02 Ty12 P10 P20 P01 G0 Y0 Hb HO S0 S1 O1 O7 O2 O6 G01 U0 ZO1]
  · iframe
  iintro ⟨⟨⟨Tc00, Tk00, Ty10⟩, ⟨Tc01, Tk01, Ty11⟩, Tc02, Tk02, Ty12⟩, ⟨P10, P20, P01⟩, ⟨G00, G10, G70, G20, G60⟩, G3, G5, ⟨Y01, Y11, Y21, Y31⟩, HO, S0, S1,
    ⟨O1, O7⟩, G0, Q1⟩
  iapply (seg5_wp X K c) $$ He [Tc10 Tk10 Tc03 Tc11 Tk11 Tc12 Tk12 Tc13 P10 P11 P21 G3 G5 G0 HO S0 S1 Q0 Q1 O3 O4 O5 U1 U2 U3 U4 U5 U6 U7]
  · iframe
  iintro ⟨⟨⟨Tc10, Tk10, Tc03⟩, ⟨Tc11, Tk11⟩, ⟨Tc12, Tk12⟩, Tc13⟩, ⟨P10, P11, P21⟩, ⟨G30, G40, G50⟩, ⟨G01, G11, G21, G31, G41, G51, G61, G71⟩, HO, S0, S1, ⟨Ha, Hb, ZO0, ZO1⟩,
    ⟨O0, O2, O3, O4, O5, O6⟩, U0, U1, U2, U3, U4, U5, U6, U7⟩
  imod (sender_close X K c (0, 0) 3 (.y 0 0)) $$ He P00 with P00
  imod (sender_close X K c (0, 1) 3 (.y 1 0)) $$ He P01 with P01
  imod (sender_close X K c (1, 0) 4 (.c 0 0)) $$ He P10 with P10
  imod (sender_close X K c (1, 1) 4 (.c 1 0)) $$ He P11 with P11
  imod (sender_close X K c (2, 0) 3 (.k 0 0)) $$ He P20 with P20
  imod (sender_close X K c (2, 1) 3 (.k 1 0)) $$ He P21 with P21
  ihave H4 := (show rowsD X c ⊢ owned (c : Thread nD τ) A4 fullShare from owned_intro (c : Thread nD τ) A4 fullShare _) $$ Hr
  rw [wp_ret]; imodintro
  iapply Hk
  unfold Post
  rw [sep_parts, sep_chunks, sep_chunks, sep_copies, sep_senders]
  iframe

end Cert.KernelIdeal.P
-- ==== Proof.KI.Ghost.lean ====
/-
  What the launch deals every device: the tokens of the duties it pays, its places at its cells, the credits of what the
  others owe it.
-/
module

public import proofs.«01_k».proof.Proof.KI.Whole
public import proofs.«01_k».proof.Proof.Gen.KernelIdeal.Launch

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_sep' bigSep_mono bigSep_map bigSep_congr bigSep_subset bigSep_fupd bigSep_univ_sum bigSep_univ_prod bigSep_univ_equiv bigSep_univ_eq_bigSepL bigSep_eq_bigSepL_of_eq bigSepL_cons_cons bigSepL_singleton)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells and tokens -/

theorem csem_injective : Function.Injective csem := by decide +kernel

theorem kcell_injective : Function.Injective (kcell : Dev nD × Cx → GSem nD τ sig) := by
  rintro ⟨c, k⟩ ⟨c', k'⟩ h
  have h1 : c = c' := congrArg (fun g : GSem nD τ sig => g.1.1) h
  have h2 : k = k' := csem_injective (congrArg Prod.snd h)
  subst h1 h2; rfl
def pCells : Finset (GSem nD τ sig) := Finset.univ.map ⟨kcell, kcell_injective⟩

/-- The duties of a device's cells: its barrier's four, each copy's leaving, each copy's arriving. -/
abbrev TK : Type := Fin 4 ⊕ Cp ⊕ Cp
def tk (k : TK) : SemLoc sig × ℕ × Fin 4 := match k with
  | .inl d => (.reg barS, 0, d)
  | .inr (.inl p) => (.dma (sendSem p), stp p, 0)
  | .inr (.inr p) => (.dma (recvSem p), 0, 0)
theorem tk_injective : Function.Injective tk := by decide +kernel

def tokOf (x : Dev nD × TK) : GSem nD τ sig × ℕ × Fin 4 := (((x.1 : Thread nD τ), (tk x.2).1), (tk x.2).2)
theorem tokOf_injective : Function.Injective tokOf := by
  rintro ⟨c, k⟩ ⟨c', k'⟩ h
  have h1 : c = c' := congrArg (fun g : GSem nD τ sig × ℕ × Fin 4 => g.1.1.1) h
  have h2 : k = k' := tk_injective (Prod.ext (congrArg (fun g : GSem nD τ sig × ℕ × Fin 4 => g.1.2) h) (congrArg (fun g : GSem nD τ sig × ℕ × Fin 4 => g.2) h))
  subst h1 h2; rfl
def pToks : Finset (GSem nD τ sig × ℕ × Fin 4) := Finset.univ.map ⟨tokOf, tokOf_injective⟩

/-- Where a copy goes, from every device at once. -/
def tgtE (p : Cp) : Dev nD ≃ Dev nD := match p with
  | .y _ _ => yE 1
  | .c _ _ => ringE 1
  | .k _ _ => ringE 7
theorem tgtE_apply (p : Cp) (c : Dev nD) : tgtE p c = tgt p c := by cases p <;> rfl

/-- Whose cell a device's duty is at. -/
def payE (k : TK) : Dev nD ≃ Dev nD := match k with
  | .inl 0 => yE 3
  | .inl 1 => ringE 7
  | .inl 2 => ringE 1
  | .inl 3 => yE 1
  | .inr (.inl _) => Equiv.refl _
  | .inr (.inr p) => tgtE p
/-- A device and a duty it pays, as the cell's device and the duty. -/
def dealE : Dev nD × TK ≃ Dev nD × TK where
  toFun x := (payE x.2 x.1, x.2)
  invFun x := ((payE x.2).symm x.1, x.2)
  left_inv x := Prod.ext ((payE x.2).symm_apply_apply x.1) rfl
  right_inv x := Prod.ext ((payE x.2).apply_symm_apply x.1) rfl

omit [FloatOps F] in
def tokAt (c : Dev nD) (k : TK) : sProp 𝕄 := dutyTok ER ((c : Thread nD τ), (tk k).1) (tk k).2.1 (tk k).2.2

omit [FloatOps F] in
/-- The tokens of the duties a device pays. -/
def payToks (c : Dev nD) : sProp 𝕄 := bigSep Finset.univ fun k => tokAt (F := F) (payE k c) k

omit [FloatOps F] in
/-- Its four signals, and its copies' two duties each. -/
theorem payToks_eq (c : Dev nD) : payToks (F := F) c =
    iprop((dutyTok ER (bCell (yDev c 3)) 0 0 ∗ dutyTok ER (bCell (ringDev c 7)) 0 1 ∗ dutyTok ER (bCell (ringDev c 1)) 0 2 ∗ dutyTok ER (bCell (yDev c 1)) 0 3)
      ∗ bigSep Finset.univ (fun p => dutyTok ER (sCell p c) (stp p) 0) ∗ bigSep Finset.univ (fun p => dutyTok ER (rCell p (tgt p c)) 0 0)) := by
  unfold payToks
  rw [bigSep_univ_sum, bigSep_univ_sum, bigSep_univ_eq_bigSepL [(0 : Fin 4), 1, 2, 3] (by decide) (by decide)]
  have h (p : Cp) : (tokAt (F := F) (payE (.inr (.inr p)) c) (.inr (.inr p)) : sProp 𝕄) = dutyTok ER (rCell p (tgt p c)) 0 0 := by
    rw [← tgtE_apply]; rfl
  simp only [h]
  rfl

variable (X : Args F)

/-- What the launch's ghost state gives device `c`. -/
def G (c : Dev nD) : sProp 𝕄 :=
  iprop((bigSep Finset.univ fun k : Cx => roundState ER (Rd X) (kcell (c, k)) 0)
    ∗ (bigSep Finset.univ fun k : Cx => iprop(atPos ER (kcell (c, k)) 0 ∅ 0 ∗ reached ER (kcell (c, k)) 0)) ∗ payToks c)

theorem fund_all : BI.own (ER (initOf pCells pToks)) ⊢ (|==> bigSep Finset.univ (G X) : sProp 𝕄) := by
  have hX (Φ : GSem nD τ sig → sProp 𝕄) : bigSep pCells Φ = bigSep Finset.univ fun c : Dev nD => bigSep Finset.univ fun k : Cx => Φ (kcell (c, k)) := by
    unfold pCells; rw [bigSep_map, bigSep_univ_prod]; rfl
  have hT : bigSep pToks (fun x => (dutyTok ER x.1 x.2.1 x.2.2 : sProp 𝕄)) = bigSep Finset.univ fun c : Dev nD => payToks c := by
    unfold pToks; rw [bigSep_map, bigSep_univ_equiv dealE, bigSep_univ_prod]; rfl
  iintro HX
  imod (Rounds.fund ER (Rd X) pCells pToks) $$ HX with ⟨Hst, Hr, Hat, Htok⟩
  imodintro
  ihave Hst' := (Entails.of_eq (hX fun g => roundState ER (Rd X) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The cells of the device's own transfers. -/
def lsem (i : Fin 9) : DmaSem sig := match i with
  | 0 => smD
  | 1 => smW 0
  | 2 => smW 1
  | 3 => smS 0
  | 4 => smS 1
  | 5 => smO 0
  | 6 => smO 1
  | 7 => ⟨26, by decide⟩
  | 8 => ⟨30, by decide⟩
/-- The kernel's own semaphores: arrivals, senders, its own transfers. -/
def osem (k : Cp ⊕ (Fin 3 × Fin 2) ⊕ Fin 9) : SemLoc sig := match k with
  | .inl p => .dma (recvSem p)
  | .inr (.inl x) => .dma (sxSem x)
  | .inr (.inr i) => .dma (lsem i)
theorem ownSemFacts : Pipeline.OwnSemFacts cfg0.spec osem := ⟨by decide +kernel, by decide +kernel, fun _ w => w.elim0⟩

omit [FloatOps F] in
/-- The kernel's own semaphores at zero. -/
theorem ownSems0_eq (c : Dev nD) : (Pipeline.ownSems0 (Ix := Unit) (Name := ℕ) (U := UU) (Lvl := ℕ) (Val := Elt F) (τ := τ) osem c : sProp 𝕄)
    = iprop(bigSep Finset.univ (fun p => zr (F := F) p c) ∗ bigSep Finset.univ (fun x => zl (F := F) c (sxSem x)) ∗ bigSep Finset.univ (fun i => zl (F := F) c (lsem i))) := by
  unfold Pipeline.ownSems0
  rw [bigSep_univ_sum, bigSep_univ_sum]; rfl
omit [FloatOps F] in
theorem unscopedSems0_eq (c : Dev nD) : (unscopedSems0 c : sProp 𝕄) = semVal (bCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ iprop((bigSep Finset.univ fun k : Cx => semVal (kcell (c, k)) 0) ∗ bigSep Finset.univ (fun i => zl (F := F) c (lsem i)) : sProp 𝕄) := by
  have h : (bigSep Finset.univ fun k : Cx => (semVal (kcell (c, k)) 0 : sProp 𝕄)) = iprop(bigSep Finset.univ (fun p => zr (F := F) p c)
      ∗ bigSep Finset.univ (fun x => zl (F := F) c (sxSem x)) ∗ semVal (bCell c) 0) := by
    rw [bigSep_univ_sum, bigSep_univ_sum, bigSep_univ_eq_bigSepL [()] (by decide) (by decide), bigSepL_singleton]; rfl
  rw [ownSems0_eq, unscopedSems0_eq, h]
  iintro ⟨⟨H1, H2, H3⟩, H4⟩
  iframe

/-- What a device gets of its ghost state once its cells are set up under the names `K`. -/
def held (c : Dev nD) : sProp 𝕄 :=
  iprop((bigSep Finset.univ fun k : Cx => atPos ER (kcell (c, k)) 0 ∅ 0) ∗ payToks c ∗ bigSep Finset.univ (fun i => zl (F := F) c (lsem i)))

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop(((bigSep Finset.univ fun k => iprop(∃ κ : ℕ, cellInv ER (Rd X) κ (kcell (c, k))))
          ∗ bigSep Finset.univ fun k => reached ER (kcell (c, k)) 0) ∗ held c) := by
  unfold G held
  rw [bigSep_sep']
  iintro ⟨Hos, Hus, Hst, ⟨Hat, Hre⟩, Htok⟩
  ihave Hv := (sems0_eq (F := F) c) $$ [Hos Hus]
  · isplitl [Hos] <;> iassumption
  icases Hv with ⟨Hv, Hz⟩
  imod (show iprop((bigSep Finset.univ fun k : Cx => semVal (kcell (c, k)) 0) ∗ bigSep Finset.univ fun k : Cx => roundState ER (Rd X) (kcell (c, k)) 0)
      ⊢ (|={Set.univ}=> bigSep Finset.univ fun k => iprop(∃ κ : ℕ, cellInv ER (Rd X) κ (kcell (c, k))) : sProp 𝕄) from by
        rw [← bigSep_sep']
        exact (bigSep_mono fun k _ => (Rounds.body_intro ER (Rd X) (kcell (c, k))).trans inv_alloc).trans (bigSep_fupd _ _)) $$ [Hv Hst] with Hinv
  · isplitl [Hv] <;> iassumption
  imodintro
  isplitl [Hinv Hre]
  · isplitl [Hinv] <;> iassumption
  isplitl [Hat]; · iexact Hat
  isplitl [Htok] <;> iassumption

/-- What it starts with: that, and every device's records. -/
def G' (c : Dev nD) : sProp 𝕄 := iprop(∃ K, records X K ∗ held c)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem held_intro (K : Dev nD × Cx → ℕ) (c : Dev nD) : iprop(records X K ∗ held c) ⊢ G' X c := by
  unfold G'; iintro H; iexists K; iexact H

theorem regroup :
    (bigSep Finset.univ fun c : Dev nD => iprop(((bigSep Finset.univ fun k => iprop(∃ κ : ℕ, cellInv ER (Rd X) κ (kcell (c, k))))
          ∗ bigSep Finset.univ fun k => reached ER (kcell (c, k)) 0) ∗ held c) : sProp 𝕄)
      ⊢ bigSep Finset.univ (G' X) := by
  rw [bigSep_sep', bigSep_sep', ← bigSep_univ_prod (fun ck : Dev nD × Cx => iprop(∃ κ : ℕ, cellInv ER (Rd X) κ (kcell ck))),
    ← bigSep_univ_prod (fun ck : Dev nD × Cx => (reached ER (kcell ck) 0 : sProp 𝕄))]
  iintro ⟨⟨HI, #HR⟩, Hh⟩
  ihave HK := (BI.bigSep_exists_pi Finset.univ (fun (ck : Dev nD × Cx) (κ : ℕ) => (cellInv ER (Rd X) κ (kcell ck) : sProp 𝕄))) $$ HI
  icases HK with ⟨%K, #HI⟩
  iapply (bigSep_with_persistent (R := records X K) fun c _ => held_intro X K c)
  isplitr
  · unfold records; rw [bigSep_sep']
    isplitl; · iexact HI
    iexact HR
  iexact Hh

/-- Every device's cells set up at once. -/
theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credits -/

theorem rCell_inj {p p' : Cp} {a b : Dev nD} (h : rCell p a = rCell p' b) : p = p' ∧ a = b :=
  ⟨Sum.inl_injective (csem_injective (congrArg Prod.snd h : csem (.inl p) = csem (.inl p'))), congrArg (fun g : GSem nD τ sig => g.1.1) h⟩
theorem bCell_inj {a b : Dev nD} (h : bCell a = bCell b) : a = b := congrArg (fun g : GSem nD τ sig => g.1.1) h
theorem rCell_ne_bCell (p : Cp) (a b : Dev nD) : rCell p a ≠ bCell b := fun h => nomatch (congrArg Prod.snd h)

theorem owedL_bar (d c : Dev nD) : ∀ l, owedL d l (bCell c) () = 0
  | [] => rfl
  | p :: l => by
    unfold owedL
    rw [Pi.add_apply, Finsupp.add_apply, owedL_bar d c l, tallyAt_ne_cell (fun h => rCell_ne_bCell _ _ _ h.symm)]; rfl
theorem owedL_none (p : Cp) (d c : Dev nD) : ∀ l, p ∉ l → owedL d l (rCell p c) () = 0
  | [], _ => rfl
  | q :: l, h => by
    unfold owedL
    rw [Pi.add_apply, Finsupp.add_apply, owedL_none p d c l fun h' => h (List.mem_cons_of_mem _ h'),
      tallyAt_ne_cell (fun h' => h (by rw [(rCell_inj h').1]; exact List.mem_cons_self))]; rfl
theorem owedL_recv (p : Cp) (d c : Dev nD) : ∀ l, l.Nodup → p ∈ l → owedL d l (rCell p c) () = if d = (tgtE p).symm c then N else 0
  | [], _, h => nomatch h
  | q :: l, hn, h => by
    unfold owedL
    rw [Pi.add_apply, Finsupp.add_apply]
    by_cases hq : p = q
    · subst hq
      rw [owedL_none p d c l (List.nodup_cons.mp hn).1, tallyAt_apply, Nat.zero_add, ← tgtE_apply]
      by_cases hd : d = (tgtE p).symm c
      · rw [if_pos hd, if_pos ⟨by rw [hd, Equiv.apply_symm_apply], rfl⟩]
      · rw [if_neg hd, if_neg fun h' => hd ((Equiv.eq_symm_apply _).mpr (rCell_inj h'.1).2.symm)]
    · rw [owedL_recv p d c l (List.nodup_cons.mp hn).2 ((List.mem_cons.mp h).resolve_left hq), tallyAt_ne_cell (fun h' => hq (rCell_inj h').1)]; rfl

/-- What a device owes when the body starts. -/
def O₀ (c : Dev nD) : CellTallies nD τ sig Unit := owedB 4 c

theorem owed_recv (p : Cp) (d c : Dev nD) : O₀ d (rCell p c) () = if d = (tgtE p).symm c then N else 0 := by
  unfold O₀ owedB
  simp only [Pi.add_apply, Finsupp.add_apply, tallyAt_ne_cell (rCell_ne_bCell p c _)]
  exact owedL_recv p d c order order_nodup (mem_order p)

theorem tally_bar (e : Dev nD ≃ Dev nD) (d c : Dev nD) : (tallyAt (bCell (e d)) () 1 : CellTallies nD τ sig Unit) (bCell c) () = if d = e.symm c then 1 else 0 := by
  rw [tallyAt_apply]
  by_cases hd : d = e.symm c
  · rw [if_pos hd, if_pos ⟨by rw [hd, Equiv.apply_symm_apply], rfl⟩]
  · rw [if_neg hd, if_neg fun h' => hd ((Equiv.eq_symm_apply _).mpr (bCell_inj h'.1).symm)]

theorem owed_bar (d c : Dev nD) : O₀ d (bCell c) () = (if d = (ringE 7).symm c then 1 else 0) + (if d = (ringE 1).symm c then 1 else 0)
    + (if d = (yE 1).symm c then 1 else 0) + (if d = (yE 3).symm c then 1 else 0) := by
  rw [← tally_bar (ringE 7), ← tally_bar (ringE 1), ← tally_bar (yE 1), ← tally_bar (yE 3)]
  unfold O₀ owedB
  simp only [Pi.add_apply, Finsupp.add_apply]
  rw [show owed 0 d (bCell c) () = 0 from owedL_bar d c order, Nat.zero_add]
  rfl

theorem sum_at (a : Dev nD) (n : ℕ) : (∑ d : Dev nD, if d = a then n else 0) = n := by
  rw [Finset.sum_ite_eq' Finset.univ a fun _ => n, if_pos (Finset.mem_univ _)]

theorem launch_bar (c : Dev nD) :
    tallyOn (bCell c) (launchCredit (Pipeline.owing O₀) 0 (bCell c)) = (tallyAt (bCell c) () 4 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_add_distrib, sum_at, sum_at, sum_at, sum_at]
theorem launch_recv (p : Cp) (c : Dev nD) :
    tallyOn (rCell p c) (launchCredit (Pipeline.owing O₀) 0 (rCell p c)) = (tallyAt (rCell p c) () N : CellTallies nD τ sig Unit) := by
  unfold tallyAt; refine congrArg _ (Finsupp.ext fun u => ?_); cases u
  rw [Pipeline.launchCredit_owing, Finsupp.single_eq_same, Finset.sum_congr rfl fun d _ => owed_recv p d c, sum_at]

/-- The semaphores a device's credits are at. -/
def csemB (x : Unit ⊕ Cp) : SemLoc sig := match x with
  | .inl _ => .reg barS
  | .inr p => .dma (recvSem p)
theorem csemB_injective : Function.Injective csemB := by decide +kernel

omit [FloatOps F] in
theorem creds (c : Dev nD) :
    (Pipeline.launchCred O₀ c : sProp 𝕄) ⊢ iprop(cred (tallyAt (bCell c) () 4) ∗ bigSep Finset.univ fun p => cred (tallyAt (rCell p c) () N)) := by
  have h : bigSep (Finset.univ.map ⟨csemB, csemB_injective⟩) (fun sm => (cred (tallyOn ((c : Thread nD τ), sm) (launchCredit (Pipeline.owing O₀) 0 ((c : Thread nD τ), sm))) : sProp 𝕄))
      = iprop(cred (tallyAt (bCell c) () 4) ∗ bigSep Finset.univ fun p => cred (tallyAt (rCell p c) () N)) := by
    rw [bigSep_map, bigSep_univ_sum, bigSep_univ_eq_bigSepL [()] (by decide) (by decide), bigSepL_singleton]
    exact congrArg₂ BI.sep (congrArg cred (launch_bar c)) (bigSep_congr fun p _ => congrArg cred (launch_recv p c))
  unfold Pipeline.launchCred
  exact (bigSep_subset (Finset.subset_univ (Finset.univ.map ⟨csemB, csemB_injective⟩))).trans (Entails.of_eq h)

end Cert.KernelIdeal.P
-- ==== Proof.KI.Bufs.lean ====
/-
  The buffers as the windows the body works on, and back; the windows handed to the neighbours at the barrier.
-/
module

public import proofs.«01_k».proof.Proof.KI.Ghost

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_sep' bigSep_mono bigSep_congr bigSep_univ_prod bigSep_univ_equiv bigSep_univ_eq_bigSepL bigSep_eq_bigSepL_of_eq bigSepL_cons_cons bigSepL_singleton)
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Args F) (c : Dev nD)

/-! ## A buffer as the window on the whole of it -/

omit [FloatOps F] in
theorem whole_eq (b : Ref sig .tc) (V : b.ty.Contents (Elt F)) :
    (owns (c : Thread nD τ) (Memref.whole b) fullShare V : sProp 𝕄)
      = iprop(∃ f : Buf (Elt F) ((c : Thread nD τ).loc b), ⌜f = V⌝ ∗ (((c : Thread nD τ).loc b) ↦{fullShare} f)) := by
  unfold owns; rw [Memref.view_whole]; simp only [View.set_whole, View.read_whole]
omit [FloatOps F] in
theorem whole_in (b : Ref sig .tc) (f : Buf (Elt F) ((c : Thread nD τ).loc b)) :
    (iprop(((c : Thread nD τ).loc b) ↦{fullShare} f) : sProp 𝕄) ⊢ owns (c : Thread nD τ) (Memref.whole b) fullShare f := by
  rw [whole_eq]; iintro H; iexists f
  isplitr; · itrivial
  iexact H
omit [FloatOps F] in
theorem whole_out (b : Ref sig .tc) (V : b.ty.Contents (Elt F)) :
    (owns (c : Thread nD τ) (Memref.whole b) fullShare V : sProp 𝕄) ⊢ iprop(((c : Thread nD τ).loc b) ↦{fullShare} V) := by
  rw [whole_eq]; iintro ⟨%f, %h, H⟩; subst h; iexact H
omit [FloatOps F] in
theorem some_in (b : Ref sig .tc) :
    (iprop(∃ f : Buf (Elt F) ((c : Thread nD τ).loc b), ((c : Thread nD τ).loc b) ↦{fullShare} f) : sProp 𝕄) ⊢ owned (c : Thread nD τ) (Memref.whole b) fullShare := by
  unfold owned; iintro ⟨%f, H⟩; iexists f; iapply (whole_in c b f); iexact H
omit [FloatOps F] in
theorem some_out (b : Ref sig .tc) :
    (owned (c : Thread nD τ) (Memref.whole b) fullShare : sProp 𝕄) ⊢ iprop(∃ f : Buf (Elt F) ((c : Thread nD τ).loc b), ((c : Thread nD τ).loc b) ↦{fullShare} f) := by
  unfold owned; iintro ⟨%f, H⟩; iexists f; iapply (whole_out c b f); iexact H

/-! ## Buffers as windows -/

/-- The blocks' buffer is its two slots. -/
theorem bufW : (owned (c : Thread nD τ) A5 fullShare : sProp 𝕄) ⊣⊢ iprop(owned (c : Thread nD τ) (mW 0) fullShare ∗ owned (c : Thread nD τ) (mW 1) fullShare) := by
  have e : bigSep Finset.univ (fun i : Fin 2 => (owned (c : Thread nD τ) (mW i) fullShare : sProp 𝕄))
      = iprop(owned (c : Thread nD τ) (mW 0) fullShare ∗ owned (c : Thread nD τ) (mW 1) fullShare) := by
    rw [bigSep_univ_eq_bigSepL [(0 : Fin 2), 1] (by decide) (by decide), bigSepL_cons_cons, bigSepL_singleton]; rfl
  rw [← e]
  exact ⟨(owned_tiles tW (c : Thread nD τ) A5 fullShare).trans (bigSep_mono fun i _ => (owned_squeeze _ _ _ _ _).2),
    (bigSep_mono fun i _ => (owned_squeeze _ _ _ _ _).1).trans (owned_of_tiles tW (c : Thread nD τ) A5 fullShare)⟩
/-- The staging buffer is its two slots. -/
theorem bufS : (owned (c : Thread nD τ) A9 fullShare : sProp 𝕄) ⊣⊢ iprop(owned (c : Thread nD τ) (mS 0) fullShare ∗ owned (c : Thread nD τ) (mS 1) fullShare) := by
  have e : bigSep Finset.univ (fun i : Fin 2 => (owned (c : Thread nD τ) (mS i) fullShare : sProp 𝕄))
      = iprop(owned (c : Thread nD τ) (mS 0) fullShare ∗ owned (c : Thread nD τ) (mS 1) fullShare) := by
    rw [bigSep_univ_eq_bigSepL [(0 : Fin 2), 1] (by decide) (by decide), bigSepL_cons_cons, bigSepL_singleton]; rfl
  rw [← e]
  exact ⟨(owned_tiles tS (c : Thread nD τ) A9 fullShare).trans (bigSep_mono fun i _ => (owned_squeeze _ _ _ _ _).2),
    (bigSep_mono fun i _ => (owned_squeeze _ _ _ _ _).1).trans (owned_of_tiles tS (c : Thread nD τ) A9 fullShare)⟩
/-- The parts' buffer is its eight slots. -/
theorem bufY : (owned (c : Thread nD τ) A7 fullShare : sProp 𝕄) ⊣⊢ bigSep Finset.univ fun t : Fin 4 × Fin 2 => doneY c t.1 t.2 := by
  have e : bigSep Finset.univ (fun t : Fin 4 × Fin 2 => (doneY c t.1 t.2 : sProp 𝕄)) = bigSep Finset.univ fun t : Fin 2 × Fin 4 => doneY c t.2 t.1 :=
    bigSep_univ_equiv (Equiv.prodComm _ _) _
  rw [e]
  exact ⟨(owned_tiles tY (c : Thread nD τ) A7 fullShare).trans (bigSep_mono fun i _ => (owned_squeeze _ _ _ _ _).2),
    (bigSep_mono fun i _ => (owned_squeeze _ _ _ _ _).1).trans (owned_of_tiles tY (c : Thread nD τ) A7 fullShare)⟩

/-- Chunks and halves, the chunks counted back from the device's own. -/
def backE : Fin 8 × Fin 2 ≃ Fin 8 × Fin 2 := (relE c).prodCongr (Equiv.refl _)

/-- The gathered chunks' buffer is its sixteen slots. -/
theorem bufG : (owned (c : Thread nD τ) A8 fullShare : sProp 𝕄) ⊣⊢ bigSep Finset.univ fun t : Fin 8 × Fin 2 => doneG c t.1 t.2 := by
  have e : bigSep Finset.univ (fun t : Fin 8 × Fin 2 => (doneG c t.1 t.2 : sProp 𝕄)) = bigSep Finset.univ fun t : Fin 8 × Fin 2 => owned (c : Thread nD τ) (mG t.1 t.2) fullShare :=
    (bigSep_univ_equiv (backE c) fun t : Fin 8 × Fin 2 => (owned (c : Thread nD τ) (mG t.1 t.2) fullShare : sProp 𝕄)).symm
  rw [e]
  exact ⟨(owned_tiles tG (c : Thread nD τ) A8 fullShare).trans (bigSep_mono fun i _ => (owned_squeeze _ _ _ _ squeezes_S1x256x1024_S256x1024).2),
    (bigSep_mono fun i _ => (owned_squeeze _ _ _ _ squeezes_S1x256x1024_S256x1024).1).trans (owned_of_tiles tG (c : Thread nD τ) A8 fullShare)⟩

/-- The running sums' buffer from its two halves. -/
theorem bufC (a b : S256x1024.Idx → Elt F .f32) : iprop(sumC c 0 a ∗ sumC c 1 b) ⊢ (owned (c : Thread nD τ) A6 fullShare : sProp 𝕄) := by
  refine Entails.trans ?_ (owned_of_tiles tC (c : Thread nD τ) A6 fullShare)
  rw [bigSep_univ_eq_bigSepL [(0 : Fin 2), 1] (by decide) (by decide), bigSepL_cons_cons, bigSepL_singleton]
  exact sep_mono (owned_intro _ _ _ _) (owned_intro _ _ _ _)

/-! ## The result -/

/-- An index of one block of the result. -/
def blk (x : S2048x2048.Idx) : S256x1024.Idx := fun a => match a with
  | 0 => ⟨(x 0).val % 256, Nat.mod_lt _ (by decide)⟩
  | 1 => ⟨(x 1).val % 1024, Nat.mod_lt _ (by decide)⟩

/-- The result on device `c`. -/
def OUT : S2048x2048.Idx → Elt F .f32 := fun x => OV X c (rel c (tO.at_ x).1) (tO.at_ x).2 (blk x)

theorem OUT_block (j : Fin 8) (h : Fin 2) (i : S256x1024.Idx) : OUT X c ((rO (rel c j) h).emb i) = OV X c j h i := by
  have e : tO.at_ ((rO (rel c j) h).emb i) = (rel c j, h) := (tO.mem (rel c j, h) _).mp (by rw [← Rect.map_emb_univ]; exact Finset.mem_map_of_mem _ (Finset.mem_univ _))
  have eb : blk ((rO (rel c j) h).emb i) = i := by
    funext a
    match a with
    | 0 =>
      have hi : (i 0).val < 256 := (i 0).isLt
      exact Fin.ext (show (256 * (rel c j).val + 1 * (i 0).val) % 256 = (i 0).val by omega)
    | 1 =>
      have hi : (i 1).val < 1024 := (i 1).isLt
      exact Fin.ext (show (1024 * h.val + 1 * (i 1).val) % 1024 = (i 1).val by omega)
  unfold OUT
  rw [e, eb]
  show OV X c (rel c (rel c j)) h i = _
  rw [rel_rel]

/-- The result's buffer as the blocks the body fills, -/
theorem bufO_in : (owned (c : Thread nD τ) A2 fullShare : sProp 𝕄) ⊢ bigSep Finset.univ fun t : Fin 8 × Fin 2 => outF c t.1 t.2 := by
  have e : bigSep Finset.univ (fun t : Fin 8 × Fin 2 => (outF c t.1 t.2 : sProp 𝕄)) = bigSep Finset.univ fun t : Fin 8 × Fin 2 => owned (c : Thread nD τ) (mO t.1 t.2) fullShare :=
    (bigSep_univ_equiv (backE c) fun t : Fin 8 × Fin 2 => (owned (c : Thread nD τ) (mO t.1 t.2) fullShare : sProp 𝕄)).symm
  rw [e]
  exact owned_tiles tO (c : Thread nD τ) A2 fullShare
/-- and back from them filled. -/
theorem bufO_out : (bigSep Finset.univ fun t : Fin 8 × Fin 2 => outD X c t.1 t.2 : sProp 𝕄) ⊢ owns (c : Thread nD τ) A2 fullShare (OUT X c) := by
  have e : bigSep Finset.univ (fun t : Fin 8 × Fin 2 => (outD X c t.1 t.2 : sProp 𝕄))
      = bigSep Finset.univ fun t : Fin 8 × Fin 2 => owns (c : Thread nD τ) (mO t.1 t.2) fullShare fun j => OUT X c ((rO t.1 t.2).emb j) := by
    rw [bigSep_univ_equiv (backE c) fun t : Fin 8 × Fin 2 => (owns (c : Thread nD τ) (mO t.1 t.2) fullShare fun j => OUT X c ((rO t.1 t.2).emb j) : sProp 𝕄)]
    refine bigSep_congr fun t _ => ?_
    unfold outD
    rw [show OV X c t.1 t.2 = fun i => OUT X c ((rO (rel c t.1) t.2).emb i) from funext fun i => (OUT_block X c t.1 t.2 i).symm]
    rfl
  rw [e]
  exact owns_of_tiles tO (c : Thread nD τ) A2 fullShare (OUT X c)

/-! ## The windows handed over at the barrier -/

omit [FloatOps F] in
theorem landing_at (p : Cp) (e : Dev nD) (h : tgt p e = c) : (landing (F := F) p e : sProp 𝕄) = owned (c : Thread nD τ) (mD p c) fullShare := by
  subst h; rfl
theorem y_back : yDev (yDev c 3) 1 = c := by rw [yDev_yDev]; exact yDev_zero c
theorem c_back : ringDev (ringDev c 7) 1 = c := by rw [ringDev_ringDev]; exact ringDev_zero c
theorem k_back : ringDev (ringDev c 1) 7 = c := by rw [ringDev_ringDev]; exact ringDev_zero c

omit [FloatOps F] in
theorem pay_y : (barPay (F := F) 0 (yDev c 3) : sProp 𝕄) = iprop(doneY c 1 0 ∗ doneY c 2 0 ∗ doneY c 3 0 ∗ doneY c 1 1 ∗ doneY c 2 1 ∗ doneY c 3 1) := by
  unfold barPay
  rw [bigSep_eq_bigSepL_of_eq [.y 0 0, .y 0 1, .y 0 2, .y 1 0, .y 1 1, .y 1 2] (by decide) (by decide)]
  simp only [bigSepL_cons_cons, bigSepL_singleton, landing_at c (.y _ _) (yDev c 3) (y_back c)]
  rfl
omit [FloatOps F] in
theorem pay_c : (barPay (F := F) 1 (ringDev c 7) : sProp 𝕄)
    = iprop(doneG c 1 0 ∗ doneG c 2 0 ∗ doneG c 3 0 ∗ doneG c 4 0 ∗ doneG c 1 1 ∗ doneG c 2 1 ∗ doneG c 3 1 ∗ doneG c 4 1) := by
  unfold barPay
  rw [bigSep_eq_bigSepL_of_eq [.c 0 0, .c 0 1, .c 0 2, .c 0 3, .c 1 0, .c 1 1, .c 1 2, .c 1 3] (by decide) (by decide)]
  simp only [bigSepL_cons_cons, bigSepL_singleton, landing_at c (.c _ _) (ringDev c 7) (c_back c)]
  rfl
omit [FloatOps F] in
theorem pay_k : (barPay (F := F) 2 (ringDev c 1) : sProp 𝕄) = iprop(doneG c 7 0 ∗ doneG c 6 0 ∗ doneG c 5 0 ∗ doneG c 7 1 ∗ doneG c 6 1 ∗ doneG c 5 1) := by
  unfold barPay
  rw [bigSep_eq_bigSepL_of_eq [.k 0 0, .k 0 1, .k 0 2, .k 1 0, .k 1 1, .k 1 2] (by decide) (by decide)]
  simp only [bigSepL_cons_cons, bigSepL_singleton, landing_at c (.k _ _) (ringDev c 1) (k_back c)]
  rfl
omit [FloatOps F] in
theorem pay_none (e : Dev nD) : (barPay (F := F) 3 e : sProp 𝕄) = iprop(emp) := by
  unfold barPay; rw [show (Finset.univ.filter fun p => kind p = 3) = ∅ from by decide, BI.bigSep_empty]; rfl

/-- The slots of the two exchanged buffers: those the device fills itself, and those its neighbours' copies fill. -/
theorem windows : iprop(bigSep Finset.univ (fun t : Fin 4 × Fin 2 => doneY c t.1 t.2) ∗ bigSep Finset.univ (fun t : Fin 8 × Fin 2 => doneG c t.1 t.2))
    ⊢ (iprop((doneY c 0 0 ∗ doneY c 0 1 ∗ doneG c 0 0 ∗ doneG c 0 1)
      ∗ barPay (F := F) 0 (yDev c 3) ∗ barPay (F := F) 1 (ringDev c 7) ∗ barPay (F := F) 2 (ringDev c 1) ∗ barPay (F := F) 3 (yDev c 1)) : sProp 𝕄) := by
  rw [pay_y, pay_c, pay_k, pay_none, sep_parts, sep_chunks]
  dsimp only
  iintro ⟨⟨Y0, Y1, Y2, Y3, Y4, Y5, Y6, Y7⟩, ⟨G0, G1, G2, G3, G4, G5, G6, G7, G8, G9, G10, G11, G12, G13, G14, G15⟩⟩
  iframe

end Cert.KernelIdeal.P
-- ==== Proof.KI.Launch.lean ====
/-
  The launch: every device's body run on what the launch deals it, from any memory with the counters at zero.
-/
module

public import proofs.«01_k».proof.Proof.KI.Bufs
public import proofs.«01_k».proof.Proof.Gen.KernelIdeal.Frame
public import Idealize.ShloMosaic.Lib.Pipeline.CollectiveSegs

@[expose] public section

set_option maxRecDepth 16384

noncomputable section

namespace Cert.KernelIdeal.P

open Cert.KernelIdeal Cert.KernelIdeal.Gen Cert.Own
open Idealize.ShloMosaic Idealize.ShloMosaic.TcCoe
open Idealize.SL Idealize.SL.RA
open Idealize.SL.BI (sProp bigSep bigSep_sep' bigSep_mono bigSep_congr bigSep_univ_sum bigSep_univ_prod bigSep_univ_equiv bigSep_univ_eq_bigSepL bigSepL_cons_cons bigSepL_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (l : Loc nD τ sig) → Buf (Elt F) l) (g : Dev nD → PrngReg)

/-- The arguments' contents in a memory. -/
def argsOf : Args F := ⟨fun c => m ((c : Thread nD τ).loc main_arg0), fun c => m ((c : Thread nD τ).loc main_arg1)⟩
def s₀ : MemSt nD τ sig (Elt F) := ⟨m, fun _ => 0, g⟩

/-! ## What the body is run between -/

/-- What device `c` starts with, its scratch buffers aside. -/
def start (c : Dev nD) : sProp 𝕄 :=
  iprop(G' (argsOf m) c ∗ levAts L lv ∗ (cred (tallyAt (bCell c) () 4) ∗ bigSep Finset.univ fun p => cred (tallyAt (rCell p c) () N))
    ∗ argD (argsOf m) c ∗ argW (argsOf m) c ∗ owned (c : Thread nD τ) A2 fullShare)

/-- Its scratch buffers. -/
def scratches (c : Dev nD) : sProp 𝕄 :=
  iprop(owned (c : Thread nD τ) A3 fullShare ∗ owned (c : Thread nD τ) A4 fullShare ∗ owned (c : Thread nD τ) A5 fullShare ∗ owned (c : Thread nD τ) A6 fullShare
    ∗ owned (c : Thread nD τ) A7 fullShare ∗ owned (c : Thread nD τ) A8 fullShare ∗ owned (c : Thread nD τ) A9 fullShare)

/-- What it ends with, its scratch buffers aside. -/
def finish (c : Dev nD) : sProp 𝕄 :=
  iprop((semVal (bCell c) 0 ∗ argD (argsOf m) c ∗ argW (argsOf m) c ∗ owns (c : Thread nD τ) A2 fullShare (OUT (argsOf m) c))
    ∗ Pipeline.ownSems0 (Ix := Unit) (Name := ℕ) (U := UU) (Lvl := ℕ) (Val := Elt F) (τ := τ) osem c)

def Φ₀ (c : Dev nD) : sProp 𝕄 := iprop(start m c ∗ scratches c)
def Φ₁ (c : Dev nD) : sProp 𝕄 := iprop(finish m c ∗ scratches c)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

omit [FloatOps F] in
theorem lsems_eq (c : Dev nD) : (bigSep Finset.univ (fun i => zl (F := F) c (lsem i)) : sProp 𝕄)
    = iprop(zl c smD ∗ zl c (smW 0) ∗ zl c (smW 1) ∗ zl c (smS 0) ∗ zl c (smS 1) ∗ zl c (smO 0) ∗ zl c (smO 1) ∗ zl c (lsem 7) ∗ zl c (lsem 8)) := by
  rw [bigSep_univ_eq_bigSepL [(0 : Fin 9), 1, 2, 3, 4, 5, 6, 7, 8] (by decide) (by decide)]
  simp only [bigSepL_cons_cons, bigSepL_singleton]
  rfl

omit [FloatOps F] in
theorem places_eq (c : Dev nD) : (bigSep Finset.univ fun k : Cx => atPos ER (kcell (c, k)) 0 ∅ 0 : sProp 𝕄)
    = iprop(bigSep Finset.univ (fun p => atPos ER (rCell p c) 0 ∅ 0) ∗ bigSep Finset.univ (fun x => atPos ER ((c : Thread nD τ), .dma (sxSem x)) 0 ∅ 0) ∗ atPos ER (bCell c) 0 ∅ 0) := by
  rw [bigSep_univ_sum, bigSep_univ_sum, bigSep_univ_eq_bigSepL [()] (by decide) (by decide), bigSepL_singleton]; rfl

section
variable (X : Args F) (K : Dev nD × Cx → ℕ) (c : Dev nD)

theorem spos_intro (x : Fin 3 × Fin 2) : iprop(env X K ∗ atPos ER ((c : Thread nD τ), .dma (sxSem x)) 0 ∅ 0) ⊢ spos (F := F) x 0 c := by
  unfold spos
  iintro ⟨#He, H⟩
  isplitl [H]; · iexact H
  iapply (env_reached X K c (.inr (.inl x))) $$ He

theorem pre_intro : env X K ⊢ iprop(held c -∗ (cred (tallyAt (bCell c) () 4) ∗ bigSep Finset.univ fun p => cred (tallyAt (rCell p c) () N))
    -∗ argD X c -∗ argW X c -∗ owned (c : Thread nD τ) A2 fullShare -∗ scratches c -∗ oweB 4 c -∗ (Pre X c ∗ zl c (lsem 7) ∗ zl c (lsem 8))) := by
  unfold held scratches
  rw [places_eq, payToks_eq, lsems_eq]
  iintro #He ⟨⟨HaR, HaS, HaB⟩, ⟨⟨T0, T1, T2, T3⟩, Ts, Tr⟩, Z0, Z1, Z2, Z3, Z4, Z5, Z6, Z7, Z8⟩ ⟨CB, CR⟩ HD HW HO ⟨B3, B4, B5, B6, B7, B8, B9⟩ Howe
  ihave HO' := (bufO_in c) $$ HO
  ihave HW' := (Entails.trans (bufW c).1 .rfl) $$ B5
  ihave HS' := (Entails.trans (bufS c).1 .rfl) $$ B9
  ihave HY := (Entails.trans (bufY c).1 .rfl) $$ B7
  ihave HG := (Entails.trans (bufG c).1 .rfl) $$ B8
  icases HW' with ⟨W0, W1⟩
  icases HS' with ⟨S0, S1⟩
  ihave Hw := (windows c) $$ [HY HG]
  · isplitl [HY] <;> iassumption
  icases Hw with ⟨Hme, P0, P1, P2, P3⟩
  ihave Hsp := (bigSep_with_persistent (R := env X K) fun x _ => spos_intro X K c x) $$ [HaS]
  · isplitr; · iexact He
    iexact HaS
  unfold Pre pay arrive slotW slotS sig4 zl
  simp only [bigSep_sep']
  iframe

theorem post_elim : iprop(Post X c ∗ zl c (lsem 7) ∗ zl c (lsem 8)) ⊢ iprop(((semVal (bCell c) 0 ∗ argD X c ∗ argW X c ∗ owns (c : Thread nD τ) A2 fullShare (OUT X c))
    ∗ Pipeline.ownSems0 (Ix := Unit) (Name := ℕ) (U := UU) (Lvl := ℕ) (Val := Elt F) (τ := τ) osem c) ∗ scratches c ∗ owe (F := F) 20 c) := by
  unfold Post slotW slotS scratches
  rw [ownSems0_eq, lsems_eq]
  iintro ⟨⟨⟨HD, HW⟩, ⟨B3, B4, C0, C1⟩, ⟨⟨W0, Z1⟩, ⟨W1, Z2⟩, ⟨S0, Z3⟩, S1, Z4⟩, ⟨Z0, Z5, Z6⟩, HB, Ho, HY, HG, HO, HR, HS⟩, Z7, Z8⟩
  ihave HO' := (bufO_out X c) $$ HO
  ihave B5 := (Entails.trans (bufW c).2 .rfl) $$ [W0 W1]
  · isplitl [W0] <;> iassumption
  ihave B9 := (Entails.trans (bufS c).2 .rfl) $$ [S0 S1]
  · isplitl [S0] <;> iassumption
  ihave B7 := (Entails.trans (bufY c).2 .rfl) $$ HY
  ihave B8 := (Entails.trans (bufG c).2 .rfl) $$ HG
  ihave B6 := (bufC c _ _) $$ [C0 C1]
  · isplitl [C0] <;> iassumption
  unfold zl
  iframe

end

omit [FloatOps F] in
/-- The kernel has no windows the pipeline fills. -/
theorem no_windows (Φ : Fin cfg0.W → sProp 𝕄) : bigSep Finset.univ Φ = iprop(emp) := BI.bigSep_empty

/-- The library's body obligation on device `c`. -/
theorem body_obligation (c : Dev nD) : BodyObligation (dats m 0 c) (defs₀ (F := F)) 𝒱₀ () Set.univ := fun t => by
  rw [fin_N0 t]
  show iprop(Φ₀ m c ∗ (dats m 0 c).owesAt () t0_0.castSucc ∗ _) ⊢ WP c (bodyAt0 t0_0) (fun _ => iprop(Φ₁ m c ∗ (dats m 0 c).owesAt () t0_0.succ ∗ _))
  rw [body_eq, no_windows, no_windows]
  unfold WP
  rw [wp_deviceId]
  unfold Φ₀ Φ₁ start finish G' Dat.owesAt Pipeline.owesWithin
  rw [show (dats m 0 c).owed t0_0.castSucc = O₀ c from rfl, show (dats m 0 c).owed t0_0.succ = 0 from rfl]
  iintro ⟨⟨⟨⟨%K, HR, Hh⟩, Hl, Hc, HD, HW, HO⟩, Hs⟩, ⟨%W, -, Ho⟩, Hw⟩
  ihave #He := (show iprop(records (argsOf m) K ∗ levAts L lv) ⊢ env (argsOf m) K from .rfl) $$ [HR Hl]
  · isplitl [HR] <;> iassumption
  ihave Hp := (pre_intro (argsOf m) K c) $$ He Hh Hc HD HW HO Hs [Ho]
  · unfold oweB; iexists W; iexact Ho
  icases Hp with ⟨Hp, Hz⟩
  iapply (body_wp (argsOf m) K c) $$ He Hp
  iintro Hq
  ihave Hq' := (post_elim (argsOf m) c) $$ [Hq Hz]
  · isplitl [Hq] <;> iassumption
  icases Hq' with ⟨Hf, Hs, Ho⟩
  isplitl [Hf Hs]
  · isplitl [Hf] <;> iassumption
  isplitl [Ho]
  · ihave Ho' := (show owe (F := F) 20 c ⊢ iprop(∃ W, owes (c : Thread nD τ) 0 W) from .rfl) $$ Ho
    icases Ho' with ⟨%W', Ho'⟩
    iexists W'
    isplitr; · ipureintro; exact fun _ _ => Or.inl trivial
    iexact Ho'
  iexact Hw

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (g c) ∗ G' (argsOf m) c)
      ⊢ |={Set.univ}=> iprop(start m c ∗ emp) := by
  rw [Pipeline.unscopedRestP_none, unscopedRest0_eq]
  iintro ⟨⟨H0, H1, H2⟩, Hlev, Hcr, -, HG⟩
  ihave Hc := (creds (F := F) c) $$ Hcr
  ihave HD := (whole_in c main_arg0 _) $$ H0
  ihave HW := (whole_in c main_arg1 _) $$ H1
  ihave HO := (whole_in c main_v1 _) $$ H2
  ihave HO' := (owned_intro _ _ _ _) $$ HO
  imodintro
  unfold start argD argW
  isplitl
  · isplitl [HG]; · iexact HG
    isplitl [Hlev]; · iexact Hlev
    isplitl [Hc]; · iexact Hc
    isplitl [HD]; · iexact HD
    isplitl [HW]; · iexact HW
    iexact HO'
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratches
  iintro ⟨Hs, -, H0, H1, H2, H3, H4, H5, H6⟩
  isplitl [Hs]; · iexact Hs
  isplitl [H0]; · iapply (some_in c cc0_scratch0); iexact H0
  isplitl [H1]; · iapply (some_in c cc0_scratch1); iexact H1
  isplitl [H2]; · iapply (some_in c cc0_scratch2); iexact H2
  isplitl [H3]; · iapply (some_in c cc0_scratch3); iexact H3
  isplitl [H4]; · iapply (some_in c cc0_scratch4); iexact H4
  isplitl [H5]; · iapply (some_in c cc0_scratch5); iexact H5
  iapply (some_in c cc0_scratch6); iexact H6

/-- What a device's arrays and its barrier hold at the end. -/
def results (c : Dev nD) : sProp 𝕄 :=
  iprop(unscopedSems0 c ∗ (((c : Thread nD τ).loc main_arg0) ↦{fullShare} m ((c : Thread nD τ).loc main_arg0))
    ∗ (((c : Thread nD τ).loc main_arg1) ↦{fullShare} m ((c : Thread nD τ).loc main_arg1)) ∗ (((c : Thread nD τ).loc main_v1) ↦{fullShare} OUT (argsOf m) c))

theorem phi1_exit (c : Dev nD) :
    (dats m 0 c).Φ (Fin.last cfg0.N) ⊢ iprop(results m c ∗ Pipeline.ownSems0 osem c ∗ Pipeline.scopedRest cfg0.spec c) := by
  rw [show (dats m 0 c).Φ (Fin.last cfg0.N) = Φ₁ m c from rfl, scopedRest0_eq]
  unfold Φ₁ finish scratches results argD argW
  rw [unscopedSems0_eq]
  iintro ⟨⟨⟨Hb, HD, HW, HO⟩, Hos⟩, H0, H1, H2, H3, H4, H5, H6⟩
  isplitl [Hb HD HW HO]
  · isplitl [Hb]; · iexact Hb
    isplitl [HD]; · iapply (whole_out c main_arg0); iexact HD
    isplitl [HW]; · iapply (whole_out c main_arg1); iexact HW
    iapply (whole_out c main_v1); iexact HO
  isplitl [Hos]; · iexact Hos
  isplitl [H0]; · iapply (some_out c cc0_scratch0); iexact H0
  isplitl [H1]; · iapply (some_out c cc0_scratch1); iexact H1
  isplitl [H2]; · iapply (some_out c cc0_scratch2); iexact H2
  isplitl [H3]; · iapply (some_out c cc0_scratch3); iexact H3
  isplitl [H4]; · iapply (some_out c cc0_scratch4); iexact H4
  isplitl [H5]; · iapply (some_out c cc0_scratch5); iexact H5
  iapply (some_out c cc0_scratch6); iexact H6

theorem waits (c : Dev nD) : (levAts L lv : sProp 𝕄) ⊢ Pipeline.cellsWaits cfgs (dats m) () 0 c :=
  Pipeline.cellsWaits_intro cfgs (dats m) () 0 c fun w s t => w.elim0

/-! ## The run -/

/-- What a device's memory holds at the end. -/
def QY (c : Dev nD) (s : MemSt nD τ sig (Elt F)) : Prop :=
  (s.mem ((c : Thread nD τ).loc main_v1) = OUT (argsOf m) c ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem results_read (c : Dev nD) (s' : Phys nD τ sig (Elt F)) :
    iprop(results m c ∗ emp ∗ SI s') ⊢ |={Set.univ}=> iprop(⌜QY m c s'.mem⌝ ∗ SI s') := by
  unfold results
  iintro ⟨⟨Hu, H0, H1, H2⟩, -, HSI⟩
  icombine HSI H0 gives %h0
  icombine HSI H1 gives %h1
  icombine HSI H2 gives %h2
  imod (Pipeline.unscopedSems0_read (X := unscopedSems0 c) (c := c) BI.fupd_intro s') $$ [Hu HSI] with ⟨%h, HSI⟩
  · isplitl [Hu] <;> iassumption
  imodintro
  isplitr
  · ipureintro
    exact ⟨⟨Buf.eq_of_forall_mem_univ h2, Buf.eq_of_forall_mem_univ h0, Buf.eq_of_forall_mem_univ h1⟩, h⟩
  iexact HSI

def u₀ : UU :=
  (initOf (Pipeline.cells cfgs cellOf_inj) (Pipeline.launchToks cfgs cellOf_inj), (Emb.inl : Emb UB (UB × Counters)) (initOf pCells pToks))

theorem run_main : θ_run defs (onTc (τ := τ) (main (F := F))) (s₀ m g)
    (fun r => (∀ c : Dev nD, r.2.mem ((c : Thread nD τ).loc main_v1) = OUT (argsOf m) c ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G (argsOf m)) (G' := G' (argsOf m)) (u₀ := u₀)
    (hu₀ := by
      unfold u₀
      iintro Hu
      ihave H := (ownU_pair _ _) $$ Hu
      icases H with ⟨HP, HX⟩
      ihave HX' := (show BI.own (embR ((Emb.inl : Emb UB (UB × Counters)) (initOf pCells pToks))) ⊢ (BI.own (ER (initOf pCells pToks)) : sProp 𝕄) from .rfl) $$ HX
      imod (fund_all (argsOf m)) $$ HX' with HG
      imodintro
      isplitl [HP] <;> iassumption)
    (hglob := glob (argsOf m))
    (hA := fun _ w => w.elim0) (hpf := fun _ k => k.elim0)
    (X := start m) (Y := results m) (Z := fun _ => iprop(emp))
    (hX := start_intro m g) (hin := phi0_intro m) (hout := phi1_exit m)
    (QY := QY m) (hY := results_read m)
    (hQ := fun _ h hs => ⟨fun c => (h c).2.2.1, sem_eq_zero hs fun c => (h c).2.2.2⟩)

end Cert.KernelIdeal.P
-- ==== Proof.Value.lean ====
/-
  What the kernel's result is at the ideal instance: every running sum is a sum of products of elements of `dy` and `W`,
  and the block finished on a device is, element by element, the product of the whole `dy` with the whole `W` transposed.
-/
module

public import proofs.«01_k».proof.Proof.KI.Bufs
public import proofs.«01_k».proof.Proof.Gen.ReferenceIdeal
public import Idealize.ShloMosaic.Lib.Layout
public import Idealize.ShloMosaic.Lib.Pipeline.Value
public import Idealize.ShloMosaic.Lib.Pointwise

@[expose] public section

set_option maxRecDepth 16384

noncomputable section

namespace Cert.Value

open Cert.KernelIdeal Cert.KernelIdeal.Gen Cert.KernelIdeal.P
open Idealize.ShloMosaic
open scoped BigOperators

variable (X : Args Ideal)

/-- A sum over `n * b` places, block by block. -/
theorem sum_by_blocks {M : Type} [AddCommMonoid M] (n b : ℕ) (f : Fin (n * b) → M) :
    ∑ k, f k = ∑ i : Fin n, ∑ j : Fin b, f (finProdFinEquiv (i, j)) := by
  rw [← Equiv.sum_comp finProdFinEquiv, Fintype.sum_prod_type]

/-- The row of the result that row `p` of device `c`'s chunk is, -/
def row (c : Dev nD) (p : Fin 256) : Fin 2048 := ⟨256 * (pos c).val + p.val, by omega⟩
/-- and the column that column `q` of half `h` is. -/
def col (h : Fin 2) (q : Fin 1024) : Fin 2048 := ⟨1024 * h.val + q.val, by omega⟩

/-- One product of device `c`'s: row `r` of its `dy` by row `n` of its `W`, at column `k`. -/
def term (c : Dev nD) (r n : Fin 2048) (k : Fin (8 * 1024)) : EReal := X.dy c (ix2 r k) * X.w c (ix2 n k)

/-- The device's rows of `dy`, at an index. -/
theorem DY_at (c : Dev nD) (k : Fin 8) (p : Fin 256) (q : Fin 1024) :
    DY X c ((rB k).emb (ix2 p q)) = X.dy c (ix2 (row c p) (finProdFinEquiv (k, q))) := by
  unfold DY DYF k0_pay1
  rw [shapeCast_self]
  refine congrArg (X.dy c) (funext fun a => ?_)
  match a with
  | 0 => exact Fin.ext (show 256 * (pos c).val + 1 * (0 + 1 * p.val) = 256 * (pos c).val + p.val by omega)
  | 1 => exact Fin.ext (show 0 + 1 * (1024 * k.val + 1 * q.val) = q.val + 1024 * k.val by omega)

/-- A block of the device's `W`, at an index. -/
theorem WB_at (c : Dev nD) (h : Fin 2) (k : Fin 8) (p q : Fin 1024) :
    WB X c (ix h k) (ix2 p q) = X.w c (ix2 (col h p) (finProdFinEquiv (k, q))) := by
  unfold WB
  refine congrArg (X.w c) (funext fun a => ?_)
  match a with
  | 0 => exact Fin.ext (show 1024 * ((8 * h.val + k.val) / 8) + 1 * p.val = 1024 * h.val + p.val by omega)
  | 1 => exact Fin.ext (show 1024 * ((8 * h.val + k.val) % 8) + 1 * q.val = q.val + 1024 * k.val by omega)

/-- The unit axis put back and dropped again is the block. -/
theorem cast_usqW {e : EltTy} (x : S1024x1024.Idx → Elt Ideal e) (h : S1x1024x1024.ShapeCasts S1024x1024) :
    shapeCast S1024x1024 (usqW x) h = x := by
  funext j
  unfold shapeCast usqW
  rw [Shape.reshapeEquiv_symm, Shape.reshapeEquiv_reshapeEquiv, Shape.reshapeEquiv_self]
/-- So it is for a part's two unit axes, -/
theorem cast_usqY {e : EltTy} (x : S256x1024.Idx → Elt Ideal e) (h : S1x1x256x1024.ShapeCasts S256x1024) :
    shapeCast S256x1024 (usqY x) h = x := by
  funext j
  unfold shapeCast usqY
  rw [Shape.reshapeEquiv_symm, Shape.reshapeEquiv_reshapeEquiv, Shape.reshapeEquiv_self]
/-- and for a chunk's one. -/
theorem cast_usqG {e : EltTy} (x : S256x1024.Idx → Elt Ideal e) (h : S1x256x1024.ShapeCasts S256x1024) :
    shapeCast S256x1024 (usqG x) h = x := by
  funext j
  unfold shapeCast usqG
  rw [Shape.reshapeEquiv_symm, Shape.reshapeEquiv_reshapeEquiv, Shape.reshapeEquiv_self]
/-- A part given its two unit axes and stripped of them is the part, -/
theorem sqY_cast {e : EltTy} (x : S256x1024.Idx → Elt Ideal e) (h : S256x1024.ShapeCasts S1x1x256x1024) :
    sqY (shapeCast S1x1x256x1024 x h) = x := by
  funext j
  unfold shapeCast sqY
  dsimp only
  rw [Shape.reshapeEquiv_reshapeEquiv, Shape.reshapeEquiv_self]
/-- and so a chunk with its one. -/
theorem sqG_cast {e : EltTy} (x : S256x1024.Idx → Elt Ideal e) (h : S256x1024.ShapeCasts S1x256x1024) :
    sqG (shapeCast S1x256x1024 x h) = x := by
  funext j
  unfold shapeCast sqG
  dsimp only
  rw [Shape.reshapeEquiv_reshapeEquiv, Shape.reshapeEquiv_self]

/-- A block's product added into a running sum, at an index. -/
theorem ACC_at (c : Dev nD) (h : Fin 2) (k : Fin 8) (a : S256x1024.Idx → Elt Ideal .f32) (p : Fin 256) (q : Fin 1024) :
    ACC X c (ix h k) a (ix2 p q) = a (ix2 p q) + ∑ l : Fin 1024, term X c (row c p) (col h q) (finProdFinEquiv (k, l)) := by
  have hk : kk (ix h k) = k := Fin.ext (show (8 * h.val + k.val) % 8 = k.val by omega)
  unfold ACC k0_pay5
  rw [shapeCast_self, cast_usqW, hk]
  pointwise
  refine congrArg _ (Finset.sum_congr rfl fun l _ => ?_)
  unfold term
  exact congrArg₂ (· * ·) (DY_at X c k p l) (WB_at X c h k q l)

/-- Half `h` of the device's own product, at an index: the sum over all its columns. -/
theorem DOT_at (c : Dev nD) (h : Fin 2) (p : Fin 256) (q : Fin 1024) :
    DOT X c h (ix2 p q) = ∑ k, term X c (row c p) (col h q) k := by
  have hz : Z (F := Ideal) h (ix2 p q) = (0 : EReal) := by
    unfold Z Z0 k0_pay2
    rw [shapeCast_self]
    pointwise
  unfold DOT
  rw [sum_by_blocks 8 1024, Fin.sum_univ_eight]
  simp only [ACC_at]
  rw [hz, zero_add]

/-- A part sent is the product it is a cast of, -/
theorem PART_eq (c : Dev nD) (h : Fin 2) : PART X c h = DOT X c h := by
  unfold PART k0_pay13
  exact sqY_cast (e := .bf16) _ _
/-- a part received is added as it is, -/
theorem ADD_at (a : S256x1024.Idx → Elt Ideal .f32) (y : S256x1024.Idx → Elt Ideal .bf16) (j : S256x1024.Idx) :
    ADD a y j = (show EReal from a j) + (show EReal from y j) := by
  unfold ADD k0_pay21
  rw [shapeCast_self, cast_usqY]
  rfl
/-- and a chunk that went round the ring arrives as the finished one. -/
theorem STG_REDB (c : Dev nD) (h : Fin 2) : STG (REDB X c h) = RED X c h := by
  unfold STG REDB k0_pay30 k0_pay28
  rw [cast_usqG]
  refine (sqG_cast (e := .f32) _ _).trans ?_
  show sqG (e := .bf16) (shapeCast S1x256x1024 (truncf .bf16 (RED X c h) bitsLt_bf16_f32) shapeCasts_S256x1024_S1x256x1024) = _
  rw [sqG_cast]
  rfl

/-- A device's place on its ring is that of its neighbours along `y`. -/
theorem pos_yDev (c : Dev nD) (i : Fin 4) : pos (yDev c i) = pos c := by revert c i; decide +kernel

/-- The finished chunk, at an index: the four devices' sums. -/
theorem RED_at (c : Dev nD) (h : Fin 2) (p : Fin 256) (q : Fin 1024) :
    RED X c h (ix2 p q) = ∑ i : Fin 4, ∑ k, term X (yDev c (-i)) (row c p) (col h q) k := by
  have hr (i : Fin 4) : row (yDev c i) p = row c p := Fin.ext (by unfold row; simp only [pos_yDev])
  have e (i : Fin 4) : PART X (yDev c i) h (ix2 p q) = ∑ k, term X (yDev c i) (row c p) (col h q) k := by
    rw [PART_eq, DOT_at, hr]
  unfold RED
  rw [ADD_at, ADD_at, ADD_at, e, e, e, DOT_at, Fin.sum_univ_four, neg_zero, yDev_zero]

/-! ## Against the whole arrays -/

variable (D W : Cert.ReferenceIdeal.S2048x32768.Idx → EReal)

/-- Each device holds, of the whole arrays `D` and `W`, the columns of its `y`-coordinate. -/
def Placed : Prop := ∀ c : Dev nD,
  X.dy c = Layout.blockN ⟨2, ![2048, 8192]⟩ ⟨2, ![2048, 32768]⟩ (Layout.meshBlock [2, 4, 4] ![[], [1]] c) D
  ∧ X.w c = Layout.blockN ⟨2, ![2048, 8192]⟩ ⟨2, ![2048, 32768]⟩ (Layout.meshBlock [2, 4, 4] ![[], [1]] c) W

/-- A device's `y`-coordinate, -/
def yc (c : Dev nD) : Fin 4 := ⟨c.val / 4 % 4, Nat.mod_lt _ (by decide)⟩

/-- which going back along `y` lowers. -/
theorem yc_yDev (c : Dev nD) (i : Fin 4) : yc (yDev c (-i)) = yc c - i := by revert c i; decide +kernel

/-- Column `k` of the device of `y`-coordinate `y`, in the whole array. -/
def lane (y : Fin 4) (k : Fin (8 * 1024)) : Fin 32768 := ⟨8192 * y.val + k.val, by have := k.isLt; omega⟩

/-- Where an element of a device's block is in the whole array. -/
theorem block_at (c : Dev nD) (V : Cert.ReferenceIdeal.S2048x32768.Idx → EReal) (r : Fin 2048) (k : Fin (8 * 1024)) :
    (show S2048x8192.Idx → EReal from
      Layout.blockN ⟨2, ![2048, 8192]⟩ ⟨2, ![2048, 32768]⟩ (Layout.meshBlock [2, 4, 4] ![[], [1]] c) V) (ix2 r k)
      = V (ix2 r (lane (yc c) k)) := by
  have hy : Layout.meshLin [2, 4, 4] c.val [1] = c.val / 4 % 4 := by
    revert c; decide +kernel
  refine congrArg V (funext fun a => ?_)
  match a with
  | 0 => exact Fin.ext ((Layout.TilesN.idx_val _ _ _ _).trans (show 0 * 2048 + r.val = r.val by omega))
  | 1 => exact Fin.ext ((Layout.TilesN.idx_val _ _ _ _).trans
      (show Layout.meshLin [2, 4, 4] c.val [1] * 8192 + k.val = 8192 * (c.val / 4 % 4) + k.val by rw [hy]; omega))

variable {X D W}

/-- A device's product is one of the whole arrays'. -/
theorem term_whole (H : Placed X D W) (c : Dev nD) (r n : Fin 2048) (k : Fin (8 * 1024)) :
    term X c r n k = D (ix2 r (lane (yc c) k)) * W (ix2 n (lane (yc c) k)) := by
  unfold term
  rw [(H c).1, (H c).2]
  exact congrArg₂ (· * ·) (block_at c D r k) (block_at c W n k)

/-- The finished chunk, at an index, is the sum over all columns of the whole arrays. -/
theorem RED_whole (H : Placed X D W) (c : Dev nD) (h : Fin 2) (p : Fin 256) (q : Fin 1024) :
    RED X c h (ix2 p q) = ∑ k : Fin 32768, D (ix2 (row c p) k) * W (ix2 (col h q) k) := by
  rw [RED_at]
  simp only [term_whole H, yc_yDev]
  have e := Equiv.sum_comp (Equiv.subLeft (yc c)) fun y : Fin 4 =>
    ∑ k, D (ix2 (row c p) (lane y k)) * W (ix2 (col h q) (lane y k))
  refine e.trans ?_
  rw [show (∑ k : Fin 32768, D (ix2 (row c p) k) * W (ix2 (col h q) k)) = _ from
    sum_by_blocks 4 (8 * 1024) fun k => D (ix2 (row c p) k) * W (ix2 (col h q) k)]
  refine Finset.sum_congr rfl fun y _ => Finset.sum_congr rfl fun k _ => ?_
  rw [show (lane y k : Fin 32768) = finProdFinEquiv (y, k) from
    Fin.ext (show 8192 * y.val + k.val = k.val + 8 * 1024 * y.val by omega)]

/-- The result's block `i` places back is the chunk the device there finished. -/
theorem OV_eq (c : Dev nD) (i : Fin 8) (h : Fin 2) : OV X c i h = RED X (ringDev c (-i)) h := by
  unfold OV GV
  split
  · next e => rw [e, neg_zero, ringDev_zero]
  · exact STG_REDB X _ h

/-- The chunk's place on the ring, counted back and forth. -/
theorem pos_back (c : Dev nD) (j : Fin 8) : pos (ringDev c (-(rel c j))) = j := by revert c j; decide +kernel

/-- Every device's result is the product of the whole arrays. -/
theorem OUT_whole (H : Placed X D W) (c : Dev nD) (r n : Fin 2048) :
    OUT X c (ix2 r n) = ∑ k : Fin 32768, D (ix2 r k) * W (ix2 n k) := by
  have hb : blk (ix2 r n) = ix2 ⟨r.val % 256, Nat.mod_lt _ (by decide)⟩ ⟨n.val % 1024, Nat.mod_lt _ (by decide)⟩ := by
    funext a
    match a with
    | 0 => rfl
    | 1 => rfl
  unfold OUT
  rw [OV_eq, hb, RED_whole H]
  have hr : row (ringDev c (-(rel c (tO.at_ (ix2 r n)).1))) ⟨r.val % 256, Nat.mod_lt _ (by decide)⟩ = r := by
    refine Fin.ext ?_
    unfold row
    simp only [pos_back]
    show 256 * (r.val / 256) + r.val % 256 = r.val
    omega
  have hn : col (tO.at_ (ix2 r n)).2 ⟨n.val % 1024, Nat.mod_lt _ (by decide)⟩ = n :=
    Fin.ext (show 1024 * (n.val / 1024) + n.val % 1024 = n.val by omega)
  rw [hr, hn]

variable (D W)

/-- What the reference computes of the whole arrays. -/
def whole : S2048x2048.Idx → EReal :=
  Host.dotGeneral (F := Ideal) (φ₁ := .f32) (φ₂ := .f32) Cert.ReferenceIdeal.dot_S2048x32768_S32768x2048_S2048x2048_1_0_0_1_n_n none D
    (transpose Cert.ReferenceIdeal.S32768x2048 [1, 0] W Cert.ReferenceIdeal.Gen.transposes_S2048x32768_S32768x2048_1_0)

/-- The reference's result, at an index. -/
theorem whole_at (r n : Fin 2048) : whole D W (ix2 r n) = ∑ k : Fin 32768, D (ix2 r k) * W (ix2 n k) := by
  unfold whole
  pointwise

variable {D W}

/-- Every device ends with the reference's result. -/
theorem OUT_eq_whole (H : Placed X D W) (c : Dev nD) : OUT X c = whole D W := by
  funext x
  rw [show x = ix2 (x 0) (x 1) from funext fun a => match a with | 0 => rfl | 1 => rfl]
  exact (OUT_whole H c (x 0) (x 1)).trans (whole_at D W (x 0) (x 1)).symm

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.Value
public import Idealize.ShloMosaic.Adequacy
public import Idealize.ShloMosaic.Init

@[expose] public section

noncomputable section

namespace Cert.Proof

open Idealize.ShloMosaic Idealize.SL.Sem

/-- The kernel as it runs on the chip terminates on every device, leaves its arguments as they were, and every
    semaphore at zero: its run (Proof/K/Launch.lean) without the result. -/
theorem frame_kernel : Cert.quiescent_Kernel := fun m g _ =>
  (θ_run Cert.Kernel.defs _ _).mono (fun r h => ⟨fun c => (h.1 c).2, h.2⟩) (Cert.Kernel.P.run_main m g)

/-- So does the kernel at the ideal instance (Proof/KI/Launch.lean). -/
theorem frame_ideal : Cert.quiescent_KernelIdeal := fun m g _ =>
  (θ_run Cert.KernelIdeal.defs _ _).mono (fun r h => ⟨fun c => (h.1 c).2, h.2⟩) (Cert.KernelIdeal.P.run_main m g)

/-- So does the reference, which has no semaphore. -/
theorem frame_reference : Cert.quiescent_ReferenceIdeal := fun m g _ =>
  (θ_run Cert.ReferenceIdeal.defs _ _).mono
    (fun r h => ⟨fun c => (h c).2, Idealize.ShloMosaic.sem_eq_zero_of_no_sems (by decide) r.2⟩)
    (Cert.ReferenceIdeal.Value.run m g)

/-- From arguments that hold each device's columns of the whole arrays, every device ends with the reference's result:
    the kernel's run ends with `OUT`, which is the product of the whole arrays (Proof/Value.lean). -/
theorem algebraic : Cert.algebraic_KernelIdeal_ReferenceIdeal := by
  intro m g m' g' _ hm
  refine ⟨Cert.Value.whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono (fun r h c => ⟨(h.1 c).1.trans ?_, (h.1 c).2⟩) (Cert.KernelIdeal.P.run_main m g),
    (θ_run Cert.ReferenceIdeal.defs _ _).mono (fun r h => h 0) (Cert.ReferenceIdeal.Value.run m' g')⟩
  exact Cert.Value.OUT_eq_whole (X := Cert.KernelIdeal.P.argsOf m) hm c

/-- The five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
